-- ==== Defs.lean ====
def Pre_Kernel [hPre_prefix_mask : Cert.Pre_prefix_mask.Facts] (m : (ℓ : Loc Cert.Kernel.nD Cert.Kernel.τ Cert.Kernel.sig) → Buf (Elt Bits) ℓ) : Prop :=
  ∀ c : Dev Cert.Kernel.nD,
    (Cert.Pre_prefix_mask.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_prefix_mask : Cert.Pre_prefix_mask.Facts] (m : (ℓ : Loc Cert.KernelIdeal.nD Cert.KernelIdeal.τ Cert.KernelIdeal.sig) → Buf (Elt Ideal) ℓ) : Prop :=
  ∀ c : Dev Cert.KernelIdeal.nD,
    (Cert.Pre_prefix_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_prefix_mask [hPre_prefix_mask : Cert.Pre_prefix_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_prefix_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_prefix_mask : Cert.Pre_prefix_mask.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_prefix_mask : Cert.Pre_prefix_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_prefix_mask [hReferenceIdeal : Cert.ReferenceIdeal.Facts] [hPre_prefix_mask : Cert.Pre_prefix_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_prefix_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_prefix_mask : Cert.Pre_prefix_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v3)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v3) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_prefix_mask : Cert.Pre_prefix_mask.Facts),
    quiescent_Kernel (hKernel := hKernel) (hPre_prefix_mask := hPre_prefix_mask)
    ∧ quiescent_KernelIdeal (hKernelIdeal := hKernelIdeal) (hPre_prefix_mask := hPre_prefix_mask)
    ∧ quiescent_ReferenceIdeal (hReferenceIdeal := hReferenceIdeal)
    ∧ quiescent_ReferenceIdeal_pre_prefix_mask (hReferenceIdeal := hReferenceIdeal) (hPre_prefix_mask := hPre_prefix_mask)
    ∧ preserves_Kernel_KernelIdeal
    ∧ algebraic_KernelIdeal_ReferenceIdeal (hKernelIdeal := hKernelIdeal) (hReferenceIdeal := hReferenceIdeal) (hPre_prefix_mask := hPre_prefix_mask)
-- ==== Pre_prefix_mask.lean ====
abbrev S16x4096x128 : Shape := ⟨3, ![16, 4096, 128]⟩
abbrev S16x4096 : Shape := ⟨2, ![16, 4096]⟩
abbrev S128x128 : Shape := ⟨2, ![128, 128]⟩
abbrev S_ : Shape := ⟨0, ![]⟩
abbrev S16x4096x1 : Shape := ⟨3, ![16, 4096, 1]⟩
abbrev S16x4096x3 : Shape := ⟨3, ![16, 4096, 3]⟩
abbrev S16x4095 : Shape := ⟨2, ![16, 4095]⟩

class Facts : Prop where
  bcast_S_S16x4096 : S_.BroadcastsInDim S16x4096 (![] : Fin 0 → Fin S16x4096.rank)
  bcast_S16x4096_S16x4096x1_0_1 : S16x4096.BroadcastsInDim S16x4096x1 (![0, 1] : Fin 2 → Fin S16x4096x1.rank)
  concatenates_S16x4096x1_S16x4096x1_S16x4096x1_S16x4096x3_d2 : Shape.Concatenates [S16x4096x1, S16x4096x1, S16x4096x1] S16x4096x3 2
  sliceFits_S16x4096x3_S16x4096x3 : S16x4096x3.Slices (fun _ => 0) S16x4096x3
  slices_S16x4096x3_S16x4096x1_0_0_1 : S16x4096x3.Slices ![0, 0, 1] S16x4096x1
  shapeCasts_S16x4096x1_S16x4096 : S16x4096x1.ShapeCasts S16x4096
  reducesTo_S16x4096_S_d0_1 : S16x4096.ReducesTo [0, 1] S_
  h_S_ : 0 < S_.numel
  slices_S16x4096_S16x4095_0_1 : S16x4096.Slices ![0, 1] S16x4095
  slices_S16x4096_S16x4095_0_0 : S16x4096.Slices ![0, 0] S16x4095
  reducesTo_S16x4095_S_d0_1 : S16x4095.ReducesTo [0, 1] S_

variable [Facts]

def fn_part1 {F : FTy → Type} [FloatOps F] (main_arg1 : FVec F S16x4096 .f32) (main_v8 : IVec S16x4096 1) (main_v15 : IVec S16x4096 32) (main_c_3 : IVec S_ 32) : IVec S_ 1 :=
  let main_v16 : IVec S16x4096 32 := broadcastInDim S16x4096 ![] bcast_S_S16x4096 main_c_3
  let main_v17 : IVec S16x4096 1 := cmpi .eq main_v15 main_v16
  let main_v18 : IVec S16x4096 1 := ori main_v8 main_v17
  let main_c_4 : IVec S_ 1 := constantI S_ 1 1#1
  let main_v19 : IVec S_ 1 := (fun x v => Host.reduce IntOp.andi x v reducesTo_S16x4096_S_d0_1 h_S_) main_v18 main_c_4
  let main_v20 : FVec F S16x4095 .f32 := (extractStridedSlice S16x4095 ![0, 1] · slices_S16x4096_S16x4095_0_1) main_arg1
  let main_v21 : FVec F S16x4095 .f32 := (extractStridedSlice S16x4095 ![0, 0] · slices_S16x4096_S16x4095_0_0) main_arg1
  let main_v22 : IVec S16x4095 1 := cmpf .ole main_v20 main_v21
  let main_c_5 : IVec S_ 1 := constantI S_ 1 1#1
  let main_v23 : IVec S_ 1 := (fun x v => Host.reduce IntOp.andi x v reducesTo_S16x4095_S_d0_1 h_S_) main_v22 main_c_5
  let main_v24 : IVec S_ 1 := andi main_v19 main_v23
  main_v24

def fn {F : FTy → Type} [FloatOps F] (main_arg0 : FVec F S16x4096x128 .f32) (main_arg1 : FVec F S16x4096 .f32) (main_arg2 : FVec F S128x128 .f32) : IVec S_ 1 :=
  let main_cst : FVec F S_ .f32 := constant S_ .f32 0x00000000#32
  let main_v0 : FVec F S16x4096 .f32 := broadcastInDim S16x4096 ![] bcast_S_S16x4096 main_cst
  let main_v1 : FVec F S16x4096x1 .f32 := broadcastInDim S16x4096x1 ![0, 1] bcast_S16x4096_S16x4096x1_0_1 main_v0
  let main_v2 : FVec F S16x4096x1 .f32 := broadcastInDim S16x4096x1 ![0, 1] bcast_S16x4096_S16x4096x1_0_1 main_arg1
  let main_v3 : FVec F S16x4096x1 .f32 := broadcastInDim S16x4096x1 ![0, 1] bcast_S16x4096_S16x4096x1_0_1 main_v0
  let main_v4 : FVec F S16x4096x3 .f32 := concatenate S16x4096x3 2 [⟨S16x4096x1, main_v1⟩, ⟨S16x4096x1, main_v2⟩, ⟨S16x4096x1, main_v3⟩] concatenates_S16x4096x1_S16x4096x1_S16x4096x1_S16x4096x3_d2
  let main_values : FVec F S16x4096x3 .f32 := (fun x => (Host.topK S16x4096x3 2 (FloatOps.cmpfTotal .gt) x sliceFits_S16x4096x3_S16x4096x3).1) main_v4
  let main_indices : IVec S16x4096x3 32 := (fun x => (Host.topK S16x4096x3 2 (FloatOps.cmpfTotal .gt) x sliceFits_S16x4096x3_S16x4096x3).2) main_v4
  let main_v5 : IVec S16x4096x1 32 := (extractStridedSlice S16x4096x1 ![0, 0, 1] · slices_S16x4096x3_S16x4096x1_0_0_1) main_indices
  let main_v6 : IVec S16x4096 32 := shapeCast S16x4096 main_v5 shapeCasts_S16x4096x1_S16x4096
  let main_c : IVec S_ 32 := constantI S_ 32 1#32
  let main_v7 : IVec S16x4096 32 := broadcastInDim S16x4096 ![] bcast_S_S16x4096 main_c
  let main_v8 : IVec S16x4096 1 := cmpi .eq main_v6 main_v7
  let main_cst_0 : FVec F S_ .f32 := constant S_ .f32 0x3F800000#32
  let main_v9 : FVec F S16x4096 .f32 := broadcastInDim S16x4096 ![] bcast_S_S16x4096 main_cst_0
  let main_v10 : FVec F S16x4096x1 .f32 := broadcastInDim S16x4096x1 ![0, 1] bcast_S16x4096_S16x4096x1_0_1 main_v9
  let main_v11 : FVec F S16x4096x1 .f32 := broadcastInDim S16x4096x1 ![0, 1] bcast_S16x4096_S16x4096x1_0_1 main_arg1
  let main_v12 : FVec F S16x4096x1 .f32 := broadcastInDim S16x4096x1 ![0, 1] bcast_S16x4096_S16x4096x1_0_1 main_v9
  let main_v13 : FVec F S16x4096x3 .f32 := concatenate S16x4096x3 2 [⟨S16x4096x1, main_v10⟩, ⟨S16x4096x1, main_v11⟩, ⟨S16x4096x1, main_v12⟩] concatenates_S16x4096x1_S16x4096x1_S16x4096x1_S16x4096x3_d2
  let main_values_1 : FVec F S16x4096x3 .f32 := (fun x => (Host.topK S16x4096x3 2 (FloatOps.cmpfTotal .gt) x sliceFits_S16x4096x3_S16x4096x3).1) main_v13
  let main_indices_2 : IVec S16x4096x3 32 := (fun x => (Host.topK S16x4096x3 2 (FloatOps.cmpfTotal .gt) x sliceFits_S16x4096x3_S16x4096x3).2) main_v13
  let main_v14 : IVec S16x4096x1 32 := (extractStridedSlice S16x4096x1 ![0, 0, 1] · slices_S16x4096x3_S16x4096x1_0_0_1) main_indices_2
  let main_v15 : IVec S16x4096 32 := shapeCast S16x4096 main_v14 shapeCasts_S16x4096x1_S16x4096
  let main_c_3 : IVec S_ 32 := constantI S_ 32 1#32
  fn_part1 (F := F) main_arg1 main_v8 main_v15 main_c_3
-- ==== Kernel.lean ====
abbrev S16x4096x128 : Shape := ⟨3, ![16, 4096, 128]⟩
abbrev S16x4096 : Shape := ⟨2, ![16, 4096]⟩
abbrev S128x128 : Shape := ⟨2, ![128, 128]⟩
abbrev S1x16 : Shape := ⟨2, ![1, 16]⟩
abbrev S16x1024x128 : Shape := ⟨3, ![16, 1024, 128]⟩
abbrev S16x1024 : Shape := ⟨2, ![16, 1024]⟩
abbrev S16384x128 : Shape := ⟨2, ![16384, 128]⟩
abbrev S16x1024x1 : Shape := ⟨3, ![16, 1024, 1]⟩
abbrev S16 : Shape := ⟨1, ![16]⟩
abbrev S16x128 : Shape := ⟨2, ![16, 128]⟩
abbrev S_ : Shape := ⟨0, ![]⟩
abbrev S1 : Shape := ⟨1, ![1]⟩
abbrev S1x128 : Shape := ⟨2, ![1, 128]⟩
abbrev S128 : Shape := ⟨1, ![128]⟩
abbrev S1x1x128 : Shape := ⟨3, ![1, 1, 128]⟩
abbrev S1x16x128 : Shape := ⟨3, ![1, 16, 128]⟩

abbrev nBuf : Table → Nat
  | .hbm => 15
  | .local .tc .vmem => 9
  | .local .scScalar .smem => 3
  | _ => 0

abbrev bufTy : (tb : Table) → Fin (nBuf tb) → BufTy
  | .hbm, ⟨0, _⟩ => ⟨S16x4096x128, .f32⟩
  | .hbm, ⟨1, _⟩ => ⟨S16x4096, .f32⟩
  | .hbm, ⟨2, _⟩ => ⟨S128x128, .f32⟩
  | .hbm, ⟨3, _⟩ => ⟨S16x4096x128, .f32⟩
  | .hbm, ⟨4, _⟩ => ⟨S1x16, .i32⟩
  | .hbm, ⟨5, _⟩ => ⟨S16, .i32⟩
  | .hbm, ⟨6, _⟩ => ⟨S16x128, .f32⟩
  | .hbm, ⟨7, _⟩ => ⟨S_, .i32⟩
  | .hbm, ⟨8, _⟩ => ⟨S16, .i32⟩
  | .hbm, ⟨9, _⟩ => ⟨S16, .i32⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1x16x128, .f32⟩
  | .local .tc .vmem, ⟨0, _⟩ => ⟨S16x1024x128, .f32⟩
  | .local .tc .vmem, ⟨1, _⟩ => ⟨S16x1024x128, .f32⟩
  | .local .tc .vmem, ⟨2, _⟩ => ⟨S16x1024, .f32⟩
  | .local .tc .vmem, ⟨3, _⟩ => ⟨S16x1024, .f32⟩
  | .local .tc .vmem, ⟨4, _⟩ => ⟨S128x128, .f32⟩
  | .local .tc .vmem, ⟨5, _⟩ => ⟨S16x1024x128, .f32⟩
  | .local .tc .vmem, ⟨6, _⟩ => ⟨S16x1024x128, .f32⟩
  | .local .tc .vmem, ⟨7, _⟩ => ⟨S1x16, .i32⟩
  | .local .tc .vmem, ⟨8, _⟩ => ⟨S1x16, .f32⟩
  | .local .scScalar .smem, ⟨0, _⟩ => ⟨S16, .i32⟩
  | .local .scScalar .smem, ⟨1, _⟩ => ⟨S16, .i32⟩
  | .local .scScalar .smem, ⟨2, _⟩ => ⟨S16, .i32⟩
  | _, _ => ⟨S16x4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v0_1_scs : Ref sig .scScalar := ⟨.hbm, 4, rfl⟩
abbrev main_v0_0_scs : Ref sig .scScalar := ⟨.hbm, 3, rfl⟩
abbrev main_v1_0_scs : Ref sig .scScalar := ⟨.hbm, 5, rfl⟩
abbrev main_v1_1_scs : Ref sig .scScalar := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc1_scratch0 : Ref sig .scScalar := ⟨.smem, 0, rfl⟩
abbrev cc1_scratch1 : Ref sig .scScalar := ⟨.smem, 1, rfl⟩
abbrev cc1_scratch2 : Ref sig .scScalar := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_15 : BitVec 32 := 0#32
  let v22 : BitVec 1 := Scalar.cmpi .ne v21 c0_i32_15
  v22

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![1], ![false]⟩

@[reducible] def k1_t1_loop : Scf.Loop 32 :=
  let c0_i32_3 : BitVec 32 := 0#32
  let c16_i32 : BitVec 32 := 16#32
  let v4 : BitVec 32 := Scalar.addi c0_i32_3 c16_i32
  let c1_i32 : BitVec 32 := 1#32
  ⟨c0_i32_3, v4, c1_i32⟩
def k1_off1 (k1_t1 : Fin k1_t1_loop.trips) : Fin 1 → Nat :=
  let c0_i32_23 : BitVec 32 := 0#32
  let c0_i32_3 : BitVec 32 := 0#32
  let c1_i32 : BitVec 32 := 1#32
  let arg11 : BitVec 32 := Scf.iv c0_i32_3 c1_i32 k1_t1
  let c1_i32_22 : BitVec 32 := 1#32
  let v10 : BitVec 32 := Scalar.muli arg11 c1_i32_22
  let v11 : BitVec 32 := Scalar.addi c0_i32_23 v10
  let v12 : Index := Scalar.indexCast v11
  ![v12.toNat]
@[reducible] def k1_t2_loop : Scf.Loop 32 :=
  let c0_i32_25 : BitVec 32 := 0#32
  let c16_i32_26 : BitVec 32 := 16#32
  let v14 : BitVec 32 := Scalar.addi c0_i32_25 c16_i32_26
  let c1_i32_27 : BitVec 32 := 1#32
  ⟨c0_i32_25, v14, c1_i32_27⟩
def k1_off2 (k1_t2 : Fin k1_t2_loop.trips) : Fin 1 → Nat :=
  let c0_i32_25 : BitVec 32 := 0#32
  let c1_i32_27 : BitVec 32 := 1#32
  let arg12 : BitVec 32 := Scf.iv c0_i32_25 c1_i32_27 k1_t2
  let v20 : Index := Scalar.indexCast arg12
  ![v20.toNat]
def k1_off3 (v15 : BitVec 32) : Fin 1 → Nat :=
  let v18 : Index := Scalar.indexCast v15
  ![v18.toNat]

def k1_chk1 (v15 : BitVec 32) : Prop :=
  (∀ a, (k1_off3 v15) a + S1.size a ≤ S16.size a)
theorem k1_off3_inb : ∀ (v15 : BitVec 32) (k1_hw1 : k1_chk1 v15), ∀ a, (k1_off3 v15) a + S1.size a ≤ S16.size a := fun v15 k1_hw1 => k1_hw1

@[reducible] def k1_t3_loop : Scf.Loop 32 :=
  let c0_i32_6 : BitVec 32 := 0#32
  let c16_i32_7 : BitVec 32 := 16#32
  let v5 : BitVec 32 := Scalar.addi c0_i32_6 c16_i32_7
  let c1_i32_8 : BitVec 32 := 1#32
  ⟨c0_i32_6, v5, c1_i32_8⟩
def k1_off4 (k1_t3 : Fin k1_t3_loop.trips) : Fin 1 → Nat :=
  let c0_i32_6 : BitVec 32 := 0#32
  let c1_i32_8 : BitVec 32 := 1#32
  let arg11 : BitVec 32 := Scf.iv c0_i32_6 c1_i32_8 k1_t3
  let v10 : Index := Scalar.indexCast arg11
  ![v10.toNat]
@[reducible] def k1_t4_loop : Scf.Loop 32 :=
  let c0_i32_10 : BitVec 32 := 0#32
  let c16_i32_11 : BitVec 32 := 16#32
  let v7 : BitVec 32 := Scalar.addi c0_i32_10 c16_i32_11
  let c1_i32_12 : BitVec 32 := 1#32
  ⟨c0_i32_10, v7, c1_i32_12⟩
def k1_off5 (k1_t4 : Fin k1_t4_loop.trips) : Fin 1 → Nat :=
  let c0_i32_23 : BitVec 32 := 0#32
  let c0_i32_10 : BitVec 32 := 0#32
  let c1_i32_12 : BitVec 32 := 1#32
  let arg11 : BitVec 32 := Scf.iv c0_i32_10 c1_i32_12 k1_t4
  let c1_i32_22 : BitVec 32 := 1#32
  let v10 : BitVec 32 := Scalar.muli arg11 c1_i32_22
  let v11 : BitVec 32 := Scalar.addi c0_i32_23 v10
  let v12 : Index := Scalar.indexCast v11
  ![v12.toNat]
@[reducible] def k1_t5_loop : Scf.Loop 32 :=
  let c0_i32_14 : BitVec 32 := 0#32
  let c16_i32_15 : BitVec 32 := 16#32
  let v8 : BitVec 32 := Scalar.addi c0_i32_14 c16_i32_15
  let c1_i32_16 : BitVec 32 := 1#32
  ⟨c0_i32_14, v8, c1_i32_16⟩
def k1_off6 (k1_t5 : Fin k1_t5_loop.trips) : Fin 1 → Nat :=
  let c0_i32_23 : BitVec 32 := 0#32
  let c0_i32_14 : BitVec 32 := 0#32
  let c1_i32_16 : BitVec 32 := 1#32
  let arg11 : BitVec 32 := Scf.iv c0_i32_14 c1_i32_16 k1_t5
  let c1_i32_22 : BitVec 32 := 1#32
  let v10 : BitVec 32 := Scalar.muli arg11 c1_i32_22
  let v11 : BitVec 32 := Scalar.addi c0_i32_23 v10
  let v12 : Index := Scalar.indexCast v11
  ![v12.toNat]
def k1_off7 (v13 : BitVec 32) : Fin 1 → Nat :=
  let v14 : Index := Scalar.indexCast v13
  ![v14.toNat]

def k1_chk2 (v13 : BitVec 32) : Prop :=
  (∀ a, (k1_off7 v13) a + S1.size a ≤ S16.size a)
theorem k1_off7_inb : ∀ (v13 : BitVec 32) (k1_hw2 : k1_chk2 v13), ∀ a, (k1_off7 v13) a + S1.size a ≤ S16.size a := fun v13 k1_hw2 => k1_hw2

def k1_off8 (k1_t5 : Fin k1_t5_loop.trips) : Fin 2 → Nat :=
  let c0_i32_23 : BitVec 32 := 0#32
  let c0_i32_14 : BitVec 32 := 0#32
  let c1_i32_16 : BitVec 32 := 1#32
  let arg11 : BitVec 32 := Scf.iv c0_i32_14 c1_i32_16 k1_t5
  let c1_i32_22 : BitVec 32 := 1#32
  let v10 : BitVec 32 := Scalar.muli arg11 c1_i32_22
  let v11 : BitVec 32 := Scalar.addi c0_i32_23 v10
  let c0_i32_26 : BitVec 32 := 0#32
  ![v11.toNat, 0]
def k1_off9 (v13 : BitVec 32) (v15 : BitVec 32) : Fin 3 → Nat :=
  let c1_i32_24 : BitVec 32 := 1#32
  let v16 : BitVec 32 := Scalar.subi v15 c1_i32_24
  let c0_i32_25 : BitVec 32 := 0#32
  let v17 : BitVec 32 := Scalar.maxsi v16 c0_i32_25
  let c0_i32_27 : BitVec 32 := 0#32
  ![v13.toNat, v17.toNat, 0]

def k1_chk3 (v13 : BitVec 32) (v15 : BitVec 32) : Prop :=
  (∀ a, (k1_off9 v13 v15) a + S1x1x128.size a ≤ S16x4096x128.size a)
theorem k1_off9_inb : ∀ (v13 : BitVec 32) (v15 : BitVec 32) (k1_hw3 : k1_chk3 v13 v15), ∀ a, (k1_off9 v13 v15) a + S1x1x128.size a ≤ S16x4096x128.size a := fun v13 v15 k1_hw3 => k1_hw3

@[reducible] def k1_t6_loop : Scf.Loop 32 :=
  let c0_i32_18 : BitVec 32 := 0#32
  let c16_i32_19 : BitVec 32 := 16#32
  let v9 : BitVec 32 := Scalar.addi c0_i32_18 c16_i32_19
  let c1_i32_20 : BitVec 32 := 1#32
  ⟨c0_i32_18, v9, c1_i32_20⟩
abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== ReferenceIdeal.lean ====
abbrev S16x4096x128 : Shape := ⟨3, ![16, 4096, 128]⟩
abbrev S16x4096 : Shape := ⟨2, ![16, 4096]⟩
abbrev S128x128 : Shape := ⟨2, ![128, 128]⟩
abbrev S_ : Shape := ⟨0, ![]⟩
abbrev S16 : Shape := ⟨1, ![16]⟩
abbrev S16x1 : Shape := ⟨2, ![16, 1]⟩
abbrev S1 : Shape := ⟨1, ![1]⟩
abbrev S1x1 : Shape := ⟨2, ![1, 1]⟩
abbrev S16x4096x1 : Shape := ⟨3, ![16, 4096, 1]⟩
abbrev S16x1x1 : Shape := ⟨3, ![16, 1, 1]⟩
abbrev S16x1x128 : Shape := ⟨3, ![16, 1, 128]⟩
abbrev S16x1x128x1 : Shape := ⟨4, ![16, 1, 128, 1]⟩
abbrev S1x1x1x1 : Shape := ⟨4, ![1, 1, 1, 1]⟩
abbrev S16x128 : Shape := ⟨2, ![16, 128]⟩
abbrev S1x16x128 : Shape := ⟨3, ![1, 16, 128]⟩

abbrev nBuf : Space → Nat
  | .hbm => 145
  | .vmem => 0
  | .smem => 0
  | _ => 0

abbrev hbmTy0_0 (i : Nat) : BufTy := match i % 128 with
  | 0 => ⟨S16x4096x128, .f32⟩
  | 1 => ⟨S16x4096, .f32⟩
  | 2 => ⟨S128x128, .f32⟩
  | 3 => ⟨S_, .f32⟩
  | 4 => ⟨S16, .f32⟩
  | 5 => ⟨S16, .i32⟩
  | 6 => ⟨S16x1, .f32⟩
  | 7 => ⟨S16, .f32⟩
  | 8 => ⟨S_, .f32⟩
  | 9 => ⟨S_, .f32⟩
  | 10 => ⟨S_, .i32⟩
  | 11 => ⟨S16, .i32⟩
  | 12 => ⟨S16, .i32⟩
  | 13 => ⟨S16, .i32⟩
  | 14 => ⟨S16, .i32⟩
  | 15 => ⟨S_, .i32⟩
  | 16 => ⟨S16, .i32⟩
  | 17 => ⟨S16, .i1⟩
  | 18 => ⟨S_, .i32⟩
  | 19 => ⟨S16, .i32⟩
  | 20 => ⟨S16, .i32⟩
  | 21 => ⟨S16, .i32⟩
  | 22 => ⟨S16x1, .i32⟩
  | 23 => ⟨S1, .i32⟩
  | 24 => ⟨S_, .i32⟩
  | 25 => ⟨S16x1, .i32⟩
  | 26 => ⟨S16x1, .i1⟩
  | 27 => ⟨S1x1, .i32⟩
  | 28 => ⟨S16x1, .i32⟩
  | 29 => ⟨S16x1, .i1⟩
  | 30 => ⟨S16x1, .i1⟩
  | 31 => ⟨S_, .i1⟩
  | 32 => ⟨S16, .i1⟩
  | 33 => ⟨S16x4096x128, .f32⟩
  | 34 => ⟨S16x4096x128, .i1⟩
  | 35 => ⟨S_, .f32⟩
  | 36 => ⟨S16x4096x128, .f32⟩
  | 37 => ⟨S16x4096x128, .f32⟩
  | 38 => ⟨S_, .i32⟩
  | 39 => ⟨S16, .i32⟩
  | 40 => ⟨S16, .i1⟩
  | 41 => ⟨S_, .i32⟩
  | 42 => ⟨S16, .i32⟩
  | 43 => ⟨S16, .i32⟩
  | 44 => ⟨S16, .i32⟩
  | 45 => ⟨S16x1, .i32⟩
  | 46 => ⟨S1, .i32⟩
  | 47 => ⟨S_, .i32⟩
  | 48 => ⟨S16x1, .i32⟩
  | 49 => ⟨S16x1, .i1⟩
  | 50 => ⟨S1x1, .i32⟩
  | 51 => ⟨S16x1, .i32⟩
  | 52 => ⟨S16x1, .i1⟩
  | 53 => ⟨S16x1, .i1⟩
  | 54 => ⟨S_, .i1⟩
  | 55 => ⟨S16, .i1⟩
  | 56 => ⟨S16x4096, .f32⟩
  | 57 => ⟨S16x4096, .i1⟩
  | 58 => ⟨S_, .f32⟩
  | 59 => ⟨S16x4096, .f32⟩
  | 60 => ⟨S16x4096, .f32⟩
  | 61 => ⟨S_, .i32⟩
  | 62 => ⟨S16, .i32⟩
  | 63 => ⟨S16, .i1⟩
  | 64 => ⟨S_, .i32⟩
  | 65 => ⟨S16, .i32⟩
  | 66 => ⟨S16, .i32⟩
  | 67 => ⟨S16, .i32⟩
  | 68 => ⟨S16x1, .i32⟩
  | 69 => ⟨S1, .i32⟩
  | 70 => ⟨S_, .i32⟩
  | 71 => ⟨S16x1, .i32⟩
  | 72 => ⟨S16x1, .i1⟩
  | 73 => ⟨S1x1, .i32⟩
  | 74 => ⟨S16x1, .i32⟩
  | 75 => ⟨S16x1, .i1⟩
  | 76 => ⟨S16x1, .i1⟩
  | 77 => ⟨S_, .i1⟩
  | 78 => ⟨S16, .i1⟩
  | 79 => ⟨S16, .i32⟩
  | 80 => ⟨S_, .i32⟩
  | 81 => ⟨S16, .i32⟩
  | 82 => ⟨S16, .i32⟩
  | 83 => ⟨S16, .i32⟩
  | 84 => ⟨S16, .i32⟩
  | 85 => ⟨S16, .i32⟩
  | 86 => ⟨S16x4096x128, .f32⟩
  | 87 => ⟨S16x4096x1, .f32⟩
  | 88 => ⟨S16x4096x128, .f32⟩
  | 89 => ⟨S16x4096x128, .f32⟩
  | 90 => ⟨S_, .i32⟩
  | 91 => ⟨S16, .i32⟩
  | 92 => ⟨S16, .i32⟩
  | 93 => ⟨S_, .i32⟩
  | 94 => ⟨S16, .i32⟩
  | 95 => ⟨S16, .i32⟩
  | 96 => ⟨S16x1x1, .i32⟩
  | 97 => ⟨S16x1x128, .i32⟩
  | 98 => ⟨S_, .i32⟩
  | 99 => ⟨S16x1x128, .i32⟩
  | 100 => ⟨S16x1x128, .i1⟩
  | 101 => ⟨S_, .i32⟩
  | 102 => ⟨S16x1x128, .i32⟩
  | 103 => ⟨S16x1x128, .i32⟩
  | 104 => ⟨S16x1x128, .i32⟩
  | 105 => ⟨S16x1x128x1, .i32⟩
  | 106 => ⟨S1, .i32⟩
  | 107 => ⟨S_, .i32⟩
  | 108 => ⟨S16x1x128x1, .i32⟩
  | 109 => ⟨S16x1x128x1, .i1⟩
  | 110 => ⟨S1x1x1x1, .i32⟩
  | 111 => ⟨S16x1x128x1, .i32⟩
  | 112 => ⟨S16x1x128x1, .i1⟩
  | 113 => ⟨S16x1x128x1, .i1⟩
  | 114 => ⟨S_, .i1⟩
  | 115 => ⟨S16x1x128, .i1⟩
  | 116 => ⟨S16x1x128, .f32⟩
  | 117 => ⟨S_, .f32⟩
  | 118 => ⟨S16x1x128, .f32⟩
  | 119 => ⟨S16x1x128, .f32⟩
  | 120 => ⟨S16x128, .f32⟩
  | 121 => ⟨S1x16x128, .f32⟩
  | 122 => ⟨S_, .i32⟩
  | 123 => ⟨S16, .i32⟩
  | 124 => ⟨S16, .i1⟩
  | 125 => ⟨S_, .i32⟩
  | 126 => ⟨S16, .i32⟩
  | 127 => ⟨S16, .i32⟩
  | _ => ⟨S16x4096x128, .f32⟩

abbrev hbmTy0_1 (i : Nat) : BufTy := match i % 128 with
  | 0 => ⟨S16, .i32⟩
  | 1 => ⟨S16x1, .i32⟩
  | 2 => ⟨S1, .i32⟩
  | 3 => ⟨S_, .i32⟩
  | 4 => ⟨S16x1, .i32⟩
  | 5 => ⟨S16x1, .i1⟩
  | 6 => ⟨S1x1, .i32⟩
  | 7 => ⟨S16x1, .i32⟩
  | 8 => ⟨S16x1, .i1⟩
  | 9 => ⟨S16x1, .i1⟩
  | 10 => ⟨S_, .i1⟩
  | 11 => ⟨S16, .i1⟩
  | 12 => ⟨S16x4096x128, .f32⟩
  | 13 => ⟨S16x4096x128, .i1⟩
  | 14 => ⟨S_, .f32⟩
  | 15 => ⟨S16x4096x128, .f32⟩
  | 16 => ⟨S16x4096x128, .f32⟩
  | _ => ⟨S16x4096x128, .f32⟩

abbrev hbmTy (i : Nat) : BufTy := match i / 128 with
  | 0 => hbmTy0_0 i
  | 1 => hbmTy0_1 i
  | _ => ⟨S16x4096x128, .f32⟩

abbrev bufTy : (tb : Table) → Fin (tcTables nBuf tb) → BufTy
  | .hbm, ⟨i, _⟩ => hbmTy i
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_call0_v0 : Ref sig .tc := ⟨.hbm, 12, rfl⟩
abbrev main_call0_v1_0 : Ref sig .tc := ⟨.hbm, 13, rfl⟩
abbrev main_v7 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_v5 : Ref sig .tc := ⟨.hbm, 22, rfl⟩
abbrev main_call1_c_1 : Ref sig .tc := ⟨.hbm, 23, rfl⟩
abbrev main_call1_c_2 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_v11 : Ref sig .tc := ⟨.hbm, 30, rfl⟩
abbrev main_call1_c_3 : Ref sig .tc := ⟨.hbm, 31, rfl⟩
abbrev main_call1_v12 : Ref sig .tc := ⟨.hbm, 32, rfl⟩
abbrev main_call1_v13 : Ref sig .tc := ⟨.hbm, 33, rfl⟩
abbrev main_call1_v14 : Ref sig .tc := ⟨.hbm, 34, rfl⟩
abbrev main_call1_cst : Ref sig .tc := ⟨.hbm, 35, rfl⟩
abbrev main_call1_v15 : Ref sig .tc := ⟨.hbm, 36, rfl⟩
abbrev main_v8 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_v5 : Ref sig .tc := ⟨.hbm, 45, rfl⟩
abbrev main_call2_c_1 : Ref sig .tc := ⟨.hbm, 46, rfl⟩
abbrev main_call2_c_2 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_3 : Ref sig .tc := ⟨.hbm, 54, rfl⟩
abbrev main_call2_v12 : Ref sig .tc := ⟨.hbm, 55, rfl⟩
abbrev main_call2_v13 : Ref sig .tc := ⟨.hbm, 56, rfl⟩
abbrev main_call2_v14 : Ref sig .tc := ⟨.hbm, 57, rfl⟩
abbrev main_call2_cst : Ref sig .tc := ⟨.hbm, 58, rfl⟩
abbrev main_call2_v15 : Ref sig .tc := ⟨.hbm, 59, rfl⟩
abbrev main_v9 : Ref sig .tc := ⟨.hbm, 60, rfl⟩
abbrev main_call3_c : Ref sig .tc := ⟨.hbm, 61, rfl⟩
abbrev main_call3_v0 : Ref sig .tc := ⟨.hbm, 62, rfl⟩
abbrev main_call3_v1 : Ref sig .tc := ⟨.hbm, 63, rfl⟩
abbrev main_call3_c_0 : Ref sig .tc := ⟨.hbm, 64, rfl⟩
abbrev main_call3_v2 : Ref sig .tc := ⟨.hbm, 65, rfl⟩
abbrev main_call3_v3 : Ref sig .tc := ⟨.hbm, 66, rfl⟩
abbrev main_call3_v4 : Ref sig .tc := ⟨.hbm, 67, rfl⟩
abbrev main_call3_v5 : Ref sig .tc := ⟨.hbm, 68, rfl⟩
abbrev main_call3_c_1 : Ref sig .tc := ⟨.hbm, 69, rfl⟩
abbrev main_call3_c_2 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_v9 : Ref sig .tc := ⟨.hbm, 74, rfl⟩
abbrev main_call3_v10 : Ref sig .tc := ⟨.hbm, 75, rfl⟩
abbrev main_call3_v11 : Ref sig .tc := ⟨.hbm, 76, rfl⟩
abbrev main_call3_c_3 : Ref sig .tc := ⟨.hbm, 77, rfl⟩
abbrev main_call3_v12 : Ref sig .tc := ⟨.hbm, 78, rfl⟩
abbrev main_call3_v13 : Ref sig .tc := ⟨.hbm, 79, rfl⟩
abbrev main_call3_c_4 : Ref sig .tc := ⟨.hbm, 80, rfl⟩
abbrev main_call3_v14 : Ref sig .tc := ⟨.hbm, 81, rfl⟩
abbrev main_v10 : Ref sig .tc := ⟨.hbm, 82, rfl⟩
abbrev main_call4_v0 : Ref sig .tc := ⟨.hbm, 83, rfl⟩
abbrev main_call4_v1_0 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_c : Ref sig .tc := ⟨.hbm, 90, rfl⟩
abbrev main_v16 : Ref sig .tc := ⟨.hbm, 91, rfl⟩
abbrev main_v17 : Ref sig .tc := ⟨.hbm, 92, rfl⟩
abbrev main_c_1 : Ref sig .tc := ⟨.hbm, 93, rfl⟩
abbrev main_v18 : Ref sig .tc := ⟨.hbm, 94, rfl⟩
abbrev main_v19 : Ref sig .tc := ⟨.hbm, 95, rfl⟩
abbrev main_v20 : Ref sig .tc := ⟨.hbm, 96, rfl⟩
abbrev main_v21 : Ref sig .tc := ⟨.hbm, 97, rfl⟩
abbrev main_call5_c : Ref sig .tc := ⟨.hbm, 98, rfl⟩
abbrev main_call5_v0 : Ref sig .tc := ⟨.hbm, 99, rfl⟩
abbrev main_call5_v1 : Ref sig .tc := ⟨.hbm, 100, rfl⟩
abbrev main_call5_c_0 : Ref sig .tc := ⟨.hbm, 101, rfl⟩
abbrev main_call5_v2 : Ref sig .tc := ⟨.hbm, 102, rfl⟩
abbrev main_call5_v3 : Ref sig .tc := ⟨.hbm, 103, rfl⟩
abbrev main_call5_v4 : Ref sig .tc := ⟨.hbm, 104, rfl⟩
abbrev main_call5_v5 : Ref sig .tc := ⟨.hbm, 105, rfl⟩
abbrev main_call5_c_1 : Ref sig .tc := ⟨.hbm, 106, rfl⟩
abbrev main_call5_c_2 : Ref sig .tc := ⟨.hbm, 107, rfl⟩
abbrev main_call5_v6 : Ref sig .tc := ⟨.hbm, 108, rfl⟩
abbrev main_call5_v7 : Ref sig .tc := ⟨.hbm, 109, rfl⟩
abbrev main_call5_v8 : Ref sig .tc := ⟨.hbm, 110, rfl⟩
abbrev main_call5_v9 : Ref sig .tc := ⟨.hbm, 111, rfl⟩
abbrev main_call5_v10 : Ref sig .tc := ⟨.hbm, 112, rfl⟩
abbrev main_call5_v11 : Ref sig .tc := ⟨.hbm, 113, rfl⟩
abbrev main_call5_c_3 : Ref sig .tc := ⟨.hbm, 114, rfl⟩
abbrev main_call5_v12 : Ref sig .tc := ⟨.hbm, 115, rfl⟩
abbrev main_call5_v13 : Ref sig .tc := ⟨.hbm, 116, rfl⟩
abbrev main_call5_cst : Ref sig .tc := ⟨.hbm, 117, rfl⟩
abbrev main_call5_v14 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_call6_c : Ref sig .tc := ⟨.hbm, 122, rfl⟩
abbrev main_call6_v0 : Ref sig .tc := ⟨.hbm, 123, rfl⟩
abbrev main_call6_v1 : Ref sig .tc := ⟨.hbm, 124, rfl⟩
abbrev main_call6_c_0 : Ref sig .tc := ⟨.hbm, 125, rfl⟩
abbrev main_call6_v2 : Ref sig .tc := ⟨.hbm, 126, rfl⟩
abbrev main_call6_v3 : Ref sig .tc := ⟨.hbm, 127, rfl⟩
abbrev main_call6_v4 : Ref sig .tc := ⟨.hbm, 128, rfl⟩
abbrev main_call6_v5 : Ref sig .tc := ⟨.hbm, 129, rfl⟩
abbrev main_call6_c_1 : Ref sig .tc := ⟨.hbm, 130, rfl⟩
abbrev main_call6_c_2 : Ref sig .tc := ⟨.hbm, 131, rfl⟩
abbrev main_call6_v6 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_call6_v11 : Ref sig .tc := ⟨.hbm, 137, rfl⟩
abbrev main_call6_c_3 : Ref sig .tc := ⟨.hbm, 138, rfl⟩
abbrev main_call6_v12 : Ref sig .tc := ⟨.hbm, 139, rfl⟩
abbrev main_call6_v13 : Ref sig .tc := ⟨.hbm, 140, rfl⟩
abbrev main_call6_v14 : Ref sig .tc := ⟨.hbm, 141, rfl⟩
abbrev main_call6_cst : Ref sig .tc := ⟨.hbm, 142, rfl⟩
abbrev main_call6_v15 : Ref sig .tc := ⟨.hbm, 143, rfl⟩
abbrev main_v25 : Ref sig .tc := ⟨.hbm, 144, rfl⟩

abbrev nD : Nat := 1
abbrev τ : Topo := Topo.v7x

variable {F : FTy → Type} [FloatOps F]
-- ==== Proof.Rank.lean ====
/- The ordering of sixteen integer words: the rank of each word among them (how many words come before it when the
   words are sorted from large to small, equal words in the order of their positions), the fact that the ranks are a
   permutation of the sixteen positions, and the word arithmetic that counts the rank one position at a time. -/
module

public import Idealize.ShloMosaic.PureOps
public import Mathlib.Data.Fintype.Card
public import Mathlib.Data.Fintype.EquivFin
public import Mathlib.Data.Fintype.Perm

@[expose] public section

namespace Cert.Proof.Rank

open Idealize.ShloMosaic

variable (L : Fin 16 → BitVec 32)

/-- Position `j` comes before position `i` when the words are sorted from large to small, ties in position order. -/
def Before (j i : Fin 16) : Prop := (L i).toInt < (L j).toInt ∨ (L j = L i ∧ j < i)

instance (j i : Fin 16) : Decidable (Before L j i) := by unfold Before; infer_instance

theorem before_irrefl (i : Fin 16) : ¬ Before L i i := by
  rintro (h | ⟨_, h⟩)
  · exact lt_irrefl _ h
  · exact lt_irrefl _ h

theorem before_trans {i j k : Fin 16} (h₁ : Before L i j) (h₂ : Before L j k) : Before L i k := by
  rcases h₁ with h₁ | ⟨e₁, h₁⟩ <;> rcases h₂ with h₂ | ⟨e₂, h₂⟩
  · exact .inl (lt_trans h₂ h₁)
  · exact .inl (by rw [← e₂]; exact h₁)
  · exact .inl (by rw [e₁]; exact h₂)
  · exact .inr ⟨e₁.trans e₂, lt_trans h₁ h₂⟩

theorem before_total {i j : Fin 16} (h : i ≠ j) : Before L i j ∨ Before L j i := by
  rcases lt_trichotomy (L i).toInt (L j).toInt with h' | h' | h'
  · exact .inr (.inl h')
  · have e : L i = L j := BitVec.eq_of_toInt_eq h'
    rcases lt_or_gt_of_ne h with h | h
    · exact .inl (.inr ⟨e, h⟩)
    · exact .inr (.inr ⟨e.symm, h⟩)
  · exact .inl (.inl h')

/-- The positions that come before `i`. -/
def ahead (i : Fin 16) : Finset (Fin 16) := Finset.univ.filter fun j => Before L j i

/-- The rank of position `i`: how many positions come before it. -/
def rank (i : Fin 16) : ℕ := (ahead L i).card

theorem rank_lt (i : Fin 16) : rank L i < 16 := by
  have h : ahead L i ⊂ Finset.univ :=
    Finset.ssubset_univ_iff.mpr fun h => before_irrefl L i (by
      have : i ∈ ahead L i := h ▸ Finset.mem_univ i
      exact (Finset.mem_filter.mp this).2)
  exact (Finset.card_lt_card h).trans_eq (Finset.card_univ.trans (Fintype.card_fin 16))

theorem rank_lt_of_before {i j : Fin 16} (h : Before L i j) : rank L i < rank L j := by
  refine Finset.card_lt_card ⟨fun k hk => ?_, fun hs => ?_⟩
  · exact Finset.mem_filter.mpr ⟨Finset.mem_univ _, before_trans L (Finset.mem_filter.mp hk).2 h⟩
  · exact before_irrefl L i (Finset.mem_filter.mp (hs (Finset.mem_filter.mpr ⟨Finset.mem_univ _, h⟩))).2

theorem rank_injective : Function.Injective fun i => (⟨rank L i, rank_lt L i⟩ : Fin 16) := by
  intro i j h
  by_contra hij
  have h' : rank L i = rank L j := congrArg Fin.val h
  rcases before_total L hij with hb | hb
  · exact absurd h' (rank_lt_of_before L hb).ne
  · exact absurd h' (rank_lt_of_before L hb).ne'

/-- The ranks as a permutation of the sixteen positions. -/
noncomputable def place : Equiv.Perm (Fin 16) := Equiv.ofBijective _ (Finite.injective_iff_bijective.mp (rank_injective L))

theorem place_val (i : Fin 16) : (place L i).val = rank L i := rfl

/-- The position whose rank is `j`: the `j`-th position in sorted order. -/
noncomputable def order (j : Fin 16) : Fin 16 := (place L).symm j

theorem order_place (i : Fin 16) : order L (place L i) = i := (place L).symm_apply_apply i
theorem place_order (j : Fin 16) : place L (order L j) = j := (place L).apply_symm_apply j
theorem order_injective : Function.Injective (order L) := (place L).symm.injective

/-- The positions below `k` that come before `i`: what the rank loop has counted after `k` trips. -/
def counted (i : Fin 16) (k : ℕ) : ℕ := (Finset.univ.filter fun j : Fin 16 => j.val < k ∧ Before L j i).card

theorem counted_zero (i : Fin 16) : counted L i 0 = 0 := by simp [counted]

theorem counted_all (i : Fin 16) : counted L i 16 = rank L i := by
  unfold counted rank ahead
  congr 1
  exact Finset.filter_congr fun j _ => ⟨fun h => h.2, fun h => ⟨j.isLt, h⟩⟩

theorem counted_succ (i : Fin 16) (k : ℕ) (hk : k < 16) :
    counted L i (k + 1) = counted L i k + (if Before L ⟨k, hk⟩ i then 1 else 0) := by
  unfold counted
  by_cases hb : Before L ⟨k, hk⟩ i
  · have e : (Finset.univ.filter fun j : Fin 16 => j.val < k + 1 ∧ Before L j i)
        = insert ⟨k, hk⟩ (Finset.univ.filter fun j : Fin 16 => j.val < k ∧ Before L j i) := by
      ext j
      simp only [Finset.mem_filter, Finset.mem_univ, true_and, Finset.mem_insert, Fin.ext_iff]
      constructor
      · rintro ⟨h, h'⟩
        by_cases e : j.val = k
        · exact .inl e
        · exact .inr ⟨by omega, h'⟩
      · rintro (h | ⟨h, h'⟩)
        · have : j = ⟨k, hk⟩ := Fin.ext h
          exact ⟨by omega, this ▸ hb⟩
        · exact ⟨by omega, h'⟩
    rw [e, Finset.card_insert_of_notMem (by simp), if_pos hb]
  · have e : (Finset.univ.filter fun j : Fin 16 => j.val < k + 1 ∧ Before L j i)
        = (Finset.univ.filter fun j : Fin 16 => j.val < k ∧ Before L j i) := by
      refine Finset.filter_congr fun j _ => ⟨fun h => ⟨?_, h.2⟩, fun h => ⟨by omega, h.2⟩⟩
      by_contra hjk
      have : j = ⟨k, hk⟩ := Fin.ext (show j.val = k by omega)
      exact hb (this ▸ h.2)
    rw [e, if_neg hb, Nat.add_zero]

theorem small_toInt {n : ℕ} (h : n < 2 ^ 31) : (BitVec.ofNat 32 n).toInt = n := by
  rw [BitVec.toInt_eq_toNat_of_lt] <;> rw [BitVec.toNat_ofNat, Nat.mod_eq_of_lt (by omega)]
  omega

/-- The two comparison bits that a trip of the rank loop adds up are together one when `j` comes before `i` and
    otherwise zero. -/
theorem bits_eq (acc : BitVec 32) (j i : Fin 16) :
    Scalar.addi (Scalar.addi acc (Scalar.extui (Scalar.cmpi .sgt (L j) (L i))))
        (Scalar.extui (Scalar.andi (Scalar.cmpi .eq (L j) (L i)) (Scalar.cmpi .slt (BitVec.ofNat 32 j.val) (BitVec.ofNat 32 i.val))))
      = acc + BitVec.ofNat 32 (if Before L j i then 1 else 0) := by
  simp only [Scalar.addi, Scalar.extui, Scalar.cmpi, Scalar.andi, IntOp.addi, IntOp.andi, IntOp.cmpi, BitVec.slt,
    small_toInt (show j.val < 2 ^ 31 by omega), small_toInt (show i.val < 2 ^ 31 by omega)]
  rw [BitVec.add_assoc]
  congr 1
  by_cases h₁ : (L i).toInt < (L j).toInt
  · have h₂ : L j ≠ L i := fun e => by rw [e] at h₁; exact lt_irrefl _ h₁
    rw [if_pos (show Before L j i from .inl h₁)]
    simp [h₁, beq_eq_false_iff_ne.mpr h₂]
  · by_cases h₂ : L j = L i
    · by_cases h₃ : j < i
      · rw [if_pos (show Before L j i from .inr ⟨h₂, h₃⟩)]
        have : (j.val : ℤ) < i.val := by exact_mod_cast h₃
        simp [h₂, this]
      · rw [if_neg (show ¬ Before L j i from fun h => h.elim h₁ fun h => h₃ h.2)]
        have : ¬ (j.val : ℤ) < i.val := by exact_mod_cast h₃
        simp [h₂, this]
    · rw [if_neg (show ¬ Before L j i from fun h => h.elim h₁ fun h => h₂ h.1)]
      simp [h₁, beq_eq_false_iff_ne.mpr h₂]

/-- A trip of the rank loop takes the count below `k` to the count below `k + 1`. -/
theorem counted_step (i : Fin 16) (k : ℕ) (hk : k < 16) :
    Scalar.addi (Scalar.addi (BitVec.ofNat 32 (counted L i k)) (Scalar.extui (Scalar.cmpi .sgt (L ⟨k, hk⟩) (L i))))
        (Scalar.extui (Scalar.andi (Scalar.cmpi .eq (L ⟨k, hk⟩) (L i)) (Scalar.cmpi .slt (BitVec.ofNat 32 k) (BitVec.ofNat 32 i.val))))
      = BitVec.ofNat 32 (counted L i (k + 1)) := by
  rw [counted_succ L i k hk, BitVec.ofNat_add]
  exact bits_eq L _ ⟨k, hk⟩ i

/-- How many of the words below position `k` are at least one. -/
def positives (k : ℕ) : ℕ := (Finset.univ.filter fun j : Fin 16 => j.val < k ∧ 1 ≤ (L j).toInt).card

theorem positives_zero : positives L 0 = 0 := by simp [positives]

theorem positives_le (k : ℕ) : positives L k ≤ 16 :=
  (Finset.card_le_univ _).trans_eq (Fintype.card_fin 16)

theorem positives_succ (k : ℕ) (hk : k < 16) :
    positives L (k + 1) = positives L k + (if 1 ≤ (L ⟨k, hk⟩).toInt then 1 else 0) := by
  unfold positives
  have e : (Finset.univ.filter fun j : Fin 16 => j.val < k + 1 ∧ 1 ≤ (L j).toInt)
      = (Finset.univ.filter fun j : Fin 16 => j.val < k ∧ 1 ≤ (L j).toInt)
        ∪ (Finset.univ.filter fun j : Fin 16 => j = ⟨k, hk⟩ ∧ 1 ≤ (L j).toInt) := by
    ext j
    simp only [Finset.mem_filter, Finset.mem_univ, true_and, Finset.mem_union, Fin.ext_iff]
    omega
  have hd : Disjoint (Finset.univ.filter fun j : Fin 16 => j.val < k ∧ 1 ≤ (L j).toInt)
      (Finset.univ.filter fun j : Fin 16 => j = ⟨k, hk⟩ ∧ 1 ≤ (L j).toInt) := by
    refine Finset.disjoint_left.mpr fun j h h' => ?_
    have h := (Finset.mem_filter.mp h).2.1
    rw [(Finset.mem_filter.mp h').2.1] at h
    exact lt_irrefl _ h
  rw [e, Finset.card_union_of_disjoint hd]
  congr 1
  split
  · rename_i h
    rw [Finset.card_eq_one]
    refine ⟨⟨k, hk⟩, ?_⟩
    ext j
    simp only [Finset.mem_filter, Finset.mem_univ, true_and, Finset.mem_singleton]
    exact ⟨fun h => h.1, fun e => ⟨e, e ▸ h⟩⟩
  · rename_i h
    rw [Finset.card_eq_zero]
    refine Finset.filter_eq_empty_iff.mpr fun j _ hj => h (hj.1 ▸ hj.2)

/-- A trip of the loop that counts the lengths of at least one. -/
theorem positives_step (k : ℕ) (hk : k < 16) :
    Scalar.addi (BitVec.ofNat 32 (positives L k)) (Scalar.extui (Scalar.cmpi .sge (L ⟨k, hk⟩) 1#32))
      = BitVec.ofNat 32 (positives L (k + 1)) := by
  rw [positives_succ L k hk, BitVec.ofNat_add]
  simp only [Scalar.addi, Scalar.extui, Scalar.cmpi, IntOp.addi, IntOp.cmpi, BitVec.sle]
  congr 1
  have : (1#32 : BitVec 32).toInt = 1 := by decide
  by_cases h : 1 ≤ (L ⟨k, hk⟩).toInt <;> simp [h, this]

end Cert.Proof.Rank
-- ==== Proof.Setup.lean ====
/- The program as the launch theorem sees it: the SparseCore configuration with its facts, the body tables, the ghost
   algebra (the handshakes' rounds, the pipeline's rounds and the transfers' counters) and its embeddings, and the
   names of the arrays. -/
module

public import Idealize.ShloMosaic.Adequacy
public import Idealize.ShloMosaic.Init
public import Idealize.ShloMosaic.Lib.SparseCore.Launch
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch
public import Idealize.ShloMosaic.Lib.CellWrites
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Rank

@[expose] public section

noncomputable section

namespace Cert.Proof.Ker

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.Sem
open Idealize.ShloMosaic.Rounds

variable {F : FTy → Type}

/-- The labels of the table that holds the two kernels' bodies and the TensorCore kernel's pipeline. -/
abbrev ΛP : Labels := Pipeline.Sig Λ₀ (Fin 1) fun p => (pcfgs (F := F) p).Adm
/-- The SparseCore call. -/
abbrev K : SparseCore.Cfg τ sig (ΛP (F := F)) 1 := sc (F := F)
/-- The bodies below the SparseCore's dispatch. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and none is scoped, and no SparseCore buffer is shared between tasks. -/
theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

abbrev UH : Type := URounds (GSem nD τ sig) ℕ
abbrev UP : Type := URounds (GSem nD τ sig) Unit
/-- The user algebra: the handshakes' rounds, the pipeline's rounds, the transfers' counters. -/
abbrev UU : Type := UH × (UP × Counters)

local notation "𝕄" => MT nD τ sig (HIx 1) (Elt F) ℕ UU ℕ

/-- The handshakes' rounds in the algebra. -/
abbrev EH : Emb UH (MT nD τ sig (HIx 1) (Elt F) ℕ UU ℕ) := embL
/-- The pipeline's rounds in the algebra. -/
def EP : Emb UP (MT nD τ sig (HIx 1) (Elt F) ℕ UU ℕ) := (Emb.inl : Emb UP (UP × Counters)).trans embR

instance EP_landsIn : (EP : Emb UP 𝕄).LandsIn (upEmb : UEmb _ 𝕄) := by unfold EP; infer_instance

/-- The arrays, as the TensorCore names them. -/
abbrev xLoc (d : Dev nD) : Loc nD τ sig := (SparseCore.T d).loc main_arg0
abbrev maskLoc (d : Dev nD) : Loc nD τ sig := (SparseCore.T d).loc main_arg1
abbrev wLoc (d : Dev nD) : Loc nD τ sig := (SparseCore.T d).loc main_arg2
abbrev resLoc (d : Dev nD) : Loc nD τ sig := (SparseCore.T d).loc main_v0_0
abbrev lenLoc (d : Dev nD) : Loc nD τ sig := (SparseCore.T d).loc main_v0_1
abbrev rinvLoc (d : Dev nD) : Loc nD τ sig := (SparseCore.T d).loc main_v1_0
abbrev finLoc (d : Dev nD) : Loc nD τ sig := (SparseCore.T d).loc main_v1_1

end Cert.Proof.Ker

end
-- ==== Proof.MmBody.lean ====
/- The TensorCore kernel at one grid point: what it leaves in its output blocks and in the accumulator. -/
module

public import proofs.«01_k».proof.Proof.Setup
public import Idealize.ShloMosaic.Lib.Ring
public import Idealize.ShloMosaic.Lib.Pipeline.FrameBody
public import Idealize.ShloMosaic.Lib.Pipeline.Frame
public import Idealize.ShloMosaic.Lib.VecWindow
public import Idealize.ShloMosaic.Lib.WordCmp
public import Idealize.ShloMosaic.Lib.Claim

@[expose] public section

set_option maxRecDepth 16384

noncomputable section

namespace Cert.Proof.Ker

open Cert.KernelIdeal Cert.KernelIdeal.Gen

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The point is the first: the accumulator is cleared. -/
abbrev isFirst (i : grid0.Coords) : Prop := (Scalar.cmpi .ne (Scalar.extui (Scalar.cmpi .eq (BitVec.ofNat 32 (i 0).val) 0#32)) 0#32) = 1#1
/-- The point is the last: the lengths are written. -/
abbrev isLast (i : grid0.Coords) : Prop := k0_cond2 i = 1#1

theorem isFirst_iff (t : Fin cfg0.N) : isFirst (grid0.coords t) ↔ t.val = 0 := by
  have ht : t.val < 4 := Nat.lt_of_lt_of_eq t.isLt N_0
  have e0 : (grid0.coords t 0).val = t.val / 1 % 4 := Pipeline.Grid.coords_val t 0 (by decide) rfl
  have e : t.val / 1 % 4 = t.val := by omega
  rw [e] at e0
  simp only [isFirst, e0]
  word_cmp

theorem isLast_iff (t : Fin cfg0.N) : isLast (grid0.coords t) ↔ t.val = 3 := by
  have ht : t.val < 4 := Nat.lt_of_lt_of_eq t.isLt N_0
  have e0 : (grid0.coords t 0).val = t.val / 1 % 4 := Pipeline.Grid.coords_val t 0 (by decide) rfl
  have e : t.val / 1 % 4 = t.val := by omega
  rw [e] at e0
  simp only [isLast, k0_cond2, e0]
  word_cmp

variable (c : Dev nD) (i : grid0.Coords)
  (arg1 : Memref sig .tc .vmem S16x1024x128 .f32) (harg1 : arg1.IsWhole) (arg2 : Memref sig .tc .vmem S16x1024 .f32) (harg2 : arg2.IsWhole)
  (arg3 : Memref sig .tc .vmem S128x128 .f32) (harg3 : arg3.IsWhole) (arg4 : Memref sig .tc .vmem S16x1024x128 .f32) (harg4 : arg4.IsWhole)
  (arg5 : Memref sig .tc .vmem S1x16 .i32) (harg5 : arg5.IsWhole) (arg6 : Memref sig .tc .vmem S1x16 .f32) (harg6 : arg6.IsWhole)
  (x0 : Vec F S16x1024x128 .f32) (x1 : Vec F S16x1024 .f32) (x2 : Vec F S128x128 .f32)

/-- The first point: the accumulator is cleared, then the block's mask sums added; the lengths are not touched. -/
theorem run_first (hc0 : isFirst i) (hc1 : ¬ isLast i) (d4 : Vec F S1x16 .i32) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare d4 ∗ (∃ d, owns (c : Thread nD τ) arg6 fullShare d))
      ⊢ wp frame (wpE (defs₀ (F := F)) 𝒱₀ c none) Set.univ (cc0__mm_kernel (F := F) i arg1 harg1 arg2 harg2 arg3 harg3 arg4 harg4 arg5 harg5 arg6 harg6)
          fun _ => (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare d4
            ∗ owns (c : Thread nD τ) arg6 fullShare (k0_pay3 x1 (k0_pay1 (F := F)))) : sProp 𝕄) := by
  rw [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, H4, ⟨%d5, %f5, -, H5⟩⟩
  obtain rfl := harg1.eq_unread hf0; obtain rfl := harg2.eq_unread hf1; obtain rfl := harg3.eq_unread hf2
  sl_exec (disch := first | sl_exact hc0 | sl_exact hc1)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    exact congr (congr (congrArg (k0_pay2 (F := F)) ((View.readAt_full _ _ _).trans (harg1.read_unread _))) ((View.readAt_full _ _ _).trans (harg2.read_unread _))) ((View.readAt_full _ _ _).trans (harg3.read_unread _))
  isplitl [H4]; · iexact H4
  iexists _; isplitr
  swap; · iexact H5
  ipureintro
  refine (View.read_writes_full _ _ _ _ _).trans ?_
  unfold run_first.sl.v13 run_first.sl.H5_1
  rw [View.readCov_full]
  exact congrArg (fun v => k0_pay3 (F := F) v k0_pay1) ((View.readAt_full _ _ _).trans (harg2.read_unread _))

/-- A point between: the block's mask sums are added to the accumulator; the lengths are not touched. -/
theorem run_middle (hc0 : ¬ isFirst i) (hc1 : ¬ isLast i) (d4 : Vec F S1x16 .i32) (s : Vec F S1x16 .f32) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ owns (c : Thread nD τ) arg5 fullShare d4 ∗ owns (c : Thread nD τ) arg6 fullShare s)
      ⊢ wp frame (wpE (defs₀ (F := F)) 𝒱₀ c none) Set.univ (cc0__mm_kernel (F := F) i arg1 harg1 arg2 harg2 arg3 harg3 arg4 harg4 arg5 harg5 arg6 harg6)
          fun _ => (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare d4
            ∗ owns (c : Thread nD τ) arg6 fullShare (k0_pay3 x1 s)) : sProp 𝕄) := by
  rw [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, H4, ⟨%f5, %hf5, H5⟩⟩
  obtain rfl := harg1.eq_unread hf0; obtain rfl := harg2.eq_unread hf1; obtain rfl := harg3.eq_unread hf2; obtain rfl := harg6.eq_unread hf5
  sl_exec (disch := first | sl_exact hc0 | sl_exact hc1)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    exact congr (congr (congrArg (k0_pay2 (F := F)) ((View.readAt_full _ _ _).trans (harg1.read_unread _))) ((View.readAt_full _ _ _).trans (harg2.read_unread _))) ((View.readAt_full _ _ _).trans (harg3.read_unread _))
  isplitl [H4]; · iexact H4
  iexists _; isplitr
  swap; · iexact H5
  ipureintro
  refine (View.read_writes_full _ _ _ _ _).trans ?_
  exact congr (congrArg (k0_pay3 (F := F)) ((View.readAt_full _ _ _).trans (harg2.read_unread _))) ((View.readAt_full _ _ _).trans (harg6.read_unread _))

/-- The last point: the block's mask sums are added and the sums written out as the lengths. -/
theorem run_last (hc0 : ¬ isFirst i) (hc1 : isLast i) (s : Vec F S1x16 .f32) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare s)
      ⊢ wp frame (wpE (defs₀ (F := F)) 𝒱₀ c none) Set.univ (cc0__mm_kernel (F := F) i arg1 harg1 arg2 harg2 arg3 harg3 arg4 harg4 arg5 harg5 arg6 harg6)
          fun _ => (iprop(owns (c : Thread nD τ) arg1 fullShare x0 ∗ owns (c : Thread nD τ) arg2 fullShare x1 ∗ owns (c : Thread nD τ) arg3 fullShare x2
            ∗ owns (c : Thread nD τ) arg4 fullShare (k0_pay2 x0 x1 x2) ∗ owns (c : Thread nD τ) arg5 fullShare (k0_pay4 (k0_pay3 x1 s))
            ∗ owns (c : Thread nD τ) arg6 fullShare (k0_pay3 x1 s)) : sProp 𝕄) := by
  rw [cc0__mm_kernel_eq_skeleton]; unfold cc0__mm_kernel_skel
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩⟩
  obtain rfl := harg1.eq_unread hf0; obtain rfl := harg2.eq_unread hf1; obtain rfl := harg3.eq_unread hf2; obtain rfl := harg6.eq_unread hf5
  sl_exec (disch := first | sl_exact hc0 | sl_exact hc1)
  sl_step
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    exact congr (congr (congrArg (k0_pay2 (F := F)) ((View.readAt_full _ _ _).trans (harg1.read_unread _))) ((View.readAt_full _ _ _).trans (harg2.read_unread _))) ((View.readAt_full _ _ _).trans (harg3.read_unread _))
  isplitl [H4]
  · iexists _; isplitr
    swap; · iexact H4
    ipureintro
    refine (View.read_writes_full _ _ _ _ _).trans ?_
    unfold run_last.sl.v23 run_last.sl.H5_1
    rw [View.readCov_full]
    exact congrArg (k0_pay4 (F := F)) (congr (congrArg (k0_pay3 (F := F)) ((View.readAt_full _ _ _).trans (harg2.read_unread _))) ((View.readAt_full _ _ _).trans (harg6.read_unread _)))
  iexists _; isplitr
  swap; · iexact H5
  ipureintro
  refine (View.read_writes_full _ _ _ _ _).trans ?_
  exact congr (congrArg (k0_pay3 (F := F)) ((View.readAt_full _ _ _).trans (harg2.read_unread _))) ((View.readAt_full _ _ _).trans (harg6.read_unread _))

end Cert.Proof.Ker

end
-- ==== Proof.MmDat.lean ====
/- The TensorCore kernel over its grid: what each window's buffer and the accumulator hold at every point, and that the
   body meets this at every point. -/
module

public import proofs.«01_k».proof.Proof.MmBody
public import Idealize.ShloMosaic.Lib.Pipeline.Value

@[expose] public section

set_option maxRecDepth 16384

noncomputable section

namespace Cert.Proof.Ker

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- The block of window `w`'s array, as the program finds it, at point `t`. -/
def blockAt (c : Dev nD) (w : Fin cfg0.W) (t : Fin cfg0.N) : ((cfg0.win w).xblock (cfg0.grid.coords t)).Idx → Elt F (cfg0.win w).elt :=
  ((cfg0.win w).blk t).view.read (Elt F) (m ((c : Thread nD τ).loc (Pipeline.arrRef spec0 w)))

/-- The accumulator after point `n`: the mask's row sums over the blocks up to `n`. -/
def sums (c : Dev nD) : (n : ℕ) → n < cfg0.N → Vec F S1x16 .f32
  | 0, h => k0_pay3 (blockAt m c 1 ⟨0, h⟩) (k0_pay1 (F := F))
  | n + 1, h => k0_pay3 (blockAt m c 1 ⟨n + 1, h⟩) (sums c n (Nat.lt_of_succ_lt h))

/-- The accumulator's buffer. -/
abbrev accM : Memref sig .tc .vmem S1x16 .f32 := Memref.whole cc0_scratch0

/-- Between points: the accumulator as the point before left it, at the start anything. -/
def between (c : Dev nD) : (n : ℕ) → n ≤ cfg0.N → sProp 𝕄
  | 0, _ => iprop(∃ d, owns (c : Thread nD τ) accM fullShare d)
  | n + 1, h => owns (c : Thread nD τ) accM fullShare (sums m c n h)

theorem between_pos (c : Dev nD) (n : ℕ) (h : n ≤ cfg0.N) (hz : n ≠ 0) :
    between m c n h = owns (c : Thread nD τ) accM fullShare (sums m c (n - 1) (by omega)) := by
  cases n with
  | zero => exact absurd rfl hz
  | succ n => rfl

theorem sums_pos (c : Dev nD) (t : Fin cfg0.N) (hz : t.val ≠ 0) :
    sums m c t.val t.isLt = k0_pay3 (blockAt m c 1 t) (sums m c (t.val - 1) (by omega)) := by
  obtain ⟨n, h⟩ := t
  cases n with
  | zero => exact absurd rfl hz
  | succ n => rfl

theorem sums_zero (c : Dev nD) (t : Fin cfg0.N) (hz : t.val = 0) :
    sums m c t.val t.isLt = k0_pay3 (blockAt m c 1 t) (k0_pay1 (F := F)) := by
  obtain ⟨n, h⟩ := t
  cases n with
  | zero => rfl
  | succ n => exact absurd hz (Nat.succ_ne_zero n)

/-- What every window's buffer holds after each point, with the debts the core carries throughout: those of the
    SparseCore call still to come. -/
def data (_ : Fin 1) (c : Dev nD) : Dat τ (Elt F) (HIx 1) ℕ UU ℕ cfg0 c where
  A w := m ((c : Thread nD τ).loc (Pipeline.arrRef spec0 w))
  after w t := match w with
    | ⟨0, _⟩ => blockAt m c 0 t
    | ⟨1, _⟩ => blockAt m c 1 t
    | ⟨2, _⟩ => blockAt m c 2 t
    | ⟨3, _⟩ => k0_pay2 (blockAt m c 0 t) (blockAt m c 1 t) (blockAt m c 2 t)
    | ⟨4, _⟩ => k0_pay4 (sums m c t.val t.isLt)
  Φ t := between m c t.val (Nat.le_of_lt_succ t.isLt)
  q _ := fullShare
  owed _ := (K (F := F)).Otc c 0
  recorded _ := {p | (K (F := F)).lev ((c : Thread nD τ), p.1) p.2 ≤ 0}

theorem data_A (c : Dev nD) (w : Fin cfg0.W) : (data m 0 c).A w = m ((c : Thread nD τ).loc (Pipeline.arrRef spec0 w)) := by dsimp only [data]
theorem after_0 (c : Dev nD) (t : Fin cfg0.N) : (data m 0 c).after 0 t = blockAt m c 0 t := by dsimp only [data]
theorem after_1 (c : Dev nD) (t : Fin cfg0.N) : (data m 0 c).after 1 t = blockAt m c 1 t := by dsimp only [data]
theorem after_2 (c : Dev nD) (t : Fin cfg0.N) : (data m 0 c).after 2 t = blockAt m c 2 t := by dsimp only [data]
theorem after_3 (c : Dev nD) (t : Fin cfg0.N) :
    (data m 0 c).after 3 t = k0_pay2 (blockAt m c 0 t) (blockAt m c 1 t) (blockAt m c 2 t) := by dsimp only [data]
theorem after_4 (c : Dev nD) (t : Fin cfg0.N) : (data m 0 c).after 4 t = k0_pay4 (sums m c t.val t.isLt) := by dsimp only [data]

theorem before_0 (c : Dev nD) (t : Fin cfg0.N) (d) : (data m 0 c).before 0 t d = blockAt m c 0 t :=
  ((data m 0 c).before_in_eq_fetched 0 rfl (fun _ => rfl) (fun _ _ _ => rfl)
    (fun t => by rw [after_0]; unfold Dat.blockOf blockAt; rw [data_A]; try rfl) t d).trans
    (by unfold Dat.fetched Dat.blockOf blockAt; rw [data_A]; try rfl)
theorem before_1 (c : Dev nD) (t : Fin cfg0.N) (d) : (data m 0 c).before 1 t d = blockAt m c 1 t :=
  ((data m 0 c).before_in_eq_fetched 1 rfl (fun _ => rfl) (fun _ _ _ => rfl)
    (fun t => by rw [after_1]; unfold Dat.blockOf blockAt; rw [data_A]; try rfl) t d).trans
    (by unfold Dat.fetched Dat.blockOf blockAt; rw [data_A]; try rfl)
theorem before_2 (c : Dev nD) (t : Fin cfg0.N) (d) : (data m 0 c).before 2 t d = blockAt m c 2 t :=
  ((data m 0 c).before_in_eq_fetched 2 rfl (fun _ => rfl) (fun _ _ _ => rfl)
    (fun t => by rw [after_2]; unfold Dat.blockOf blockAt; rw [data_A]; try rfl) t d).trans
    (by unfold Dat.fetched Dat.blockOf blockAt; rw [data_A]; try rfl)

/-- Away from the last point the lengths' window is idle, and nothing is written back to it. -/
theorem idle_4 : ∀ t : Fin cfg0.N, ¬ isLast (grid0.coords t) → cfg0.idle 4 (grid0.coords t) = true := by decide +kernel
theorem stay_4 : ∀ t : Fin cfg0.N, ¬ isLast (grid0.coords t) → (cfg0.win 4).flush t = false := by decide +kernel
theorem live_4 : ∀ t : Fin cfg0.N, isLast (grid0.coords t) → cfg0.idle 4 (grid0.coords t) = false := by decide +kernel

theorem leaves_0 (c : Dev nD) (t : Fin cfg0.N) :
    (data m 0 c).leavesExact 0 t = owns (c : Thread nD τ) (st0_0 t) fullShare (blockAt m c 0 t) := by
  unfold Dat.leavesExact; rw [show cfg0.idle 0 (grid0.coords t) = false from rfl, after_0]
theorem leaves_1 (c : Dev nD) (t : Fin cfg0.N) :
    (data m 0 c).leavesExact 1 t = owns (c : Thread nD τ) (st0_1 t) fullShare (blockAt m c 1 t) := by
  unfold Dat.leavesExact; rw [show cfg0.idle 1 (grid0.coords t) = false from rfl, after_1]
theorem leaves_2 (c : Dev nD) (t : Fin cfg0.N) :
    (data m 0 c).leavesExact 2 t = owns (c : Thread nD τ) (st0_2 t) fullShare (blockAt m c 2 t) := by
  unfold Dat.leavesExact; rw [show cfg0.idle 2 (grid0.coords t) = false from rfl, after_2]
theorem leaves_3 (c : Dev nD) (t : Fin cfg0.N) :
    (data m 0 c).leavesExact 3 t
      = owns (c : Thread nD τ) (st0_3 t) fullShare (k0_pay2 (blockAt m c 0 t) (blockAt m c 1 t) (blockAt m c 2 t)) := by
  unfold Dat.leavesExact; rw [show cfg0.idle 3 (grid0.coords t) = false from rfl, after_3]
theorem leaves_4 (c : Dev nD) (t : Fin cfg0.N) (h : isLast (grid0.coords t)) :
    (data m 0 c).leavesExact 4 t = owns (c : Thread nD τ) (st0_4 t) fullShare (k0_pay4 (sums m c t.val t.isLt)) := by
  unfold Dat.leavesExact; rw [live_4 t h, after_4]

/-- What the body is called with at point `t`, window by window, -/
def enters (c : Dev nD) (t : Fin cfg0.N) : sProp 𝕄 :=
  iprop((data m 0 c).Φ t.castSucc ∗ (data m 0 c).owesAt none t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d))
    ∗ (∃ d, owns (c : Thread nD τ) (st0_4 t) fullShare ((data m 0 c).before 4 t d)))

/-- and what it leaves. -/
def leaves (c : Dev nD) (t : Fin cfg0.N) : sProp 𝕄 :=
  iprop((data m 0 c).Φ t.succ ∗ (data m 0 c).owesAt none t.succ
    ∗ (data m 0 c).leavesExact 0 t ∗ (data m 0 c).leavesExact 1 t ∗ (data m 0 c).leavesExact 2 t
    ∗ (data m 0 c).leavesExact 3 t ∗ (data m 0 c).leavesExact 4 t)

set_option maxHeartbeats 1600000 in
/-- The body at any point: by the point's place in the grid, one of its three runs. -/
theorem body_run (c : Dev nD) (t : Fin cfg0.N) :
    enters m c t ⊢ wp frame (wpE (defs₀ (F := F)) 𝒱₀ c none) Set.univ (bodyAt0 t) (fun _ => leaves m c t) := by
  unfold enters leaves bodyAt0
  simp only [before_0, before_1, before_2]
  rw [show (data m 0 c).owesAt none t.succ = (data m 0 c).owesAt none t.castSucc from rfl,
    show (data m 0 c).Φ t.succ = owns (c : Thread nD τ) accM fullShare (sums m c t.val t.isLt) from rfl,
    show (data m 0 c).Φ t.castSucc = between m c t.val (Nat.le_of_lt t.isLt) from
      by dsimp only [data]; exact Pipeline.Dat.Φ_castSucc (between m c) t,
    leaves_0, leaves_1, leaves_2, leaves_3]
  have hN : t.val < 4 := lt_of_lt_of_eq t.isLt (show cfg0.N = 4 from N_0)
  by_cases h0 : t.val = 0
  · have hf : isFirst (grid0.coords t) := (isFirst_iff t).mpr h0
    have hl : ¬ isLast (grid0.coords t) := fun h => by have := (isLast_iff t).mp h; omega
    rw [Dat.leavesExact_idle (data m 0 c) 4 t (idle_4 t hl) (stay_4 t hl), sums_zero m c t h0,
      show between m c t.val (Nat.le_of_lt t.isLt) = iprop(∃ d, owns (c : Thread nD τ) accM fullShare d) from by
        obtain ⟨n, h⟩ := t; dsimp only at h0; subst h0; rfl]
    iintro ⟨Hs, Ho, ⟨%d0, H0⟩, ⟨%d1, H1⟩, ⟨%d2, H2⟩, ⟨%d3, H3⟩, ⟨%d4, H4⟩⟩
    iapply wp_wand_r
    isplitr [Ho]
    · iapply (run_first c (grid0.coords t) _ _ _ _ _ _ _ _ _ _ _ _ (blockAt m c 0 t) (blockAt m c 1 t) (blockAt m c 2 t) hf hl ((data m 0 c).before 4 t d4))
      isplitl [H0]; · iexact H0
      isplitl [H1]; · iexact H1
      isplitl [H2]; · iexact H2
      isplitl [H3]; · iexists _; iexact H3
      isplitl [H4]; · iexact H4
      iexact Hs
    iintro %_ ⟨H0, H1, H2, H3, H4, Hs⟩
    isplitl [Hs]; · iexact Hs
    isplitl [Ho]; · iexact Ho
    isplitl [H0]; · iexact H0
    isplitl [H1]; · iexact H1
    isplitl [H2]; · iexact H2
    isplitl [H3]; · iexact H3
    iexists _; iexact H4
  have hf : ¬ isFirst (grid0.coords t) := fun h => h0 ((isFirst_iff t).mp h)
  rw [sums_pos m c t h0, between_pos m c t.val (Nat.le_of_lt t.isLt) h0]
  by_cases h1 : t.val = 3
  · have hl : isLast (grid0.coords t) := (isLast_iff t).mpr h1
    rw [leaves_4 m c t hl, sums_pos m c t h0]
    iintro ⟨Hs, Ho, ⟨%d0, H0⟩, ⟨%d1, H1⟩, ⟨%d2, H2⟩, ⟨%d3, H3⟩, ⟨%d4, H4⟩⟩
    iapply wp_wand_r
    isplitr [Ho]
    · iapply (run_last c (grid0.coords t) _ _ _ _ _ _ _ _ _ _ _ _ (blockAt m c 0 t) (blockAt m c 1 t) (blockAt m c 2 t) hf hl (sums m c (t.val - 1) (by omega)))
      isplitl [H0]; · iexact H0
      isplitl [H1]; · iexact H1
      isplitl [H2]; · iexact H2
      isplitl [H3]; · iexists _; iexact H3
      isplitl [H4]; · iexists _; iexact H4
      iexact Hs
    iintro %_ ⟨H0, H1, H2, H3, H4, Hs⟩
    isplitl [Hs]; · iexact Hs
    isplitl [Ho]; · iexact Ho
    isplitl [H0]; · iexact H0
    isplitl [H1]; · iexact H1
    isplitl [H2]; · iexact H2
    isplitl [H3]; · iexact H3
    iexact H4
  · have hl : ¬ isLast (grid0.coords t) := fun h => h1 ((isLast_iff t).mp h)
    rw [Dat.leavesExact_idle (data m 0 c) 4 t (idle_4 t hl) (stay_4 t hl)]
    iintro ⟨Hs, Ho, ⟨%d0, H0⟩, ⟨%d1, H1⟩, ⟨%d2, H2⟩, ⟨%d3, H3⟩, ⟨%d4, H4⟩⟩
    iapply wp_wand_r
    isplitr [Ho]
    · iapply (run_middle c (grid0.coords t) _ _ _ _ _ _ _ _ _ _ _ _ (blockAt m c 0 t) (blockAt m c 1 t) (blockAt m c 2 t) hf hl ((data m 0 c).before 4 t d4) (sums m c (t.val - 1) (by omega)))
      isplitl [H0]; · iexact H0
      isplitl [H1]; · iexact H1
      isplitl [H2]; · iexact H2
      isplitl [H3]; · iexists _; iexact H3
      isplitl [H4]; · iexact H4
      iexact Hs
    iintro %_ ⟨H0, H1, H2, H3, H4, Hs⟩
    isplitl [Hs]; · iexact Hs
    isplitl [Ho]; · iexact Ho
    isplitl [H0]; · iexact H0
    isplitl [H1]; · iexact H1
    isplitl [H2]; · iexact H2
    isplitl [H3]; · iexact H3
    iexists _; iexact H4

/-- The body table's row of the kernel, at the point's buffers. -/
theorem row (t : Fin cfg0.N) : defs₀ (F := F) .tc cfg0.body (cfg0.bodyArgs t (cfg0.slots t)) = bodyAt0 t := by
  rfl

/-- The body meets the data at every point. -/
theorem body_meets (c : Dev nD) : BodyObligation (data (F := F) m 0 c) (defs₀ (F := F)) 𝒱₀ none Set.univ := fun t => by
  rw [bigSep_W0, bigSep_W0, row]
  exact triple_restated (body_run m c t) rfl .rfl fun _ => .rfl

end Cert.Proof.Ker

end
-- ==== Proof.MmRegion.lean ====
/- The TensorCore kernel's pipeline as one step of the program: entered with its arrays as the program finds them, left
   with the two outputs at what its points wrote. -/
module

public import proofs.«01_k».proof.Proof.MmDat
public import Idealize.ShloMosaic.Lib.Pipeline.Regions
public import Idealize.ShloMosaic.Lib.Pipeline.RegionArrays

@[expose] public section

set_option maxRecDepth 16384

noncomputable section

namespace Cert.Proof.Ker

open Cert.KernelIdeal Cert.KernelIdeal.Gen

open Idealize.ShloMosaic Idealize.ShloMosaic.TcCoe Idealize.ShloMosaic.Tactic
open Idealize.ShloMosaic.SparseCore.Cfg (HIx)
open Idealize.ShloMosaic.Pipeline (Dat BodyObligation RegionSeg)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ)

/-- The pipeline prefetches nothing. -/
abbrev adm : (p : Fin 1) → (pcfgs (F := F) p).Adm := fun p => (cfgs p).toPCfg_adm

/-- None of what the core owes is at the pipeline's own index. -/
theorem owes_none (c : Dev nD) (g : GSem nD τ sig) : (K (F := F)).Otc c 0 g none = 0 := by
  by_contra h
  have := (K (F := F)).lev_of_Otc_pos (Nat.pos_of_ne_zero h)
  rw [(K (F := F)).lev_none] at this
  omega

/-- The region of the TensorCore kernel, the core owing throughout what the SparseCore call will ask of it. -/
def region : RegionSeg (pcfgs (F := F)) adm (data m) none defs₀ 𝒱₀ (K (F := F)).L (K (F := F)).lev 0 where
  win := winFacts0.to₀
  block_pos := block_pos0
  stage_whole := stage_whole0
  K := PEmpty
  osem k := k.elim
  ho := Pipeline.OwnSemFacts.none _
  hbody c := (body_meets m c).loose
  hwaits c := Pipeline.cellsWaits_intro (Pipeline.pin pcfgs adm) (data m) none 0 c fun w s t =>
    (K (F := F)).mayWait_none _ (owes_none (F := F) c)
  pre c := iprop((data m 0 c).arrays ((data m 0 c).arrAt · 0)
    ∗ ∃ W, ⌜(K (F := F)).WBelow (c : Thread nD τ) W 0⌝ ∗ owes (c : Thread nD τ) ((K (F := F)).Otc c 0) W)
  post c := iprop((data m 0 c).arrays ((data m 0 c).arrAt · cfg0.N)
    ∗ ∃ W, ⌜(K (F := F)).WBelow (c : Thread nD τ) W 0⌝ ∗ owes (c : Thread nD τ) ((K (F := F)).Otc c 0) W)
  X _ := iprop(emp)
  Y _ := iprop(emp)
  Z _ := iprop(emp)
  hentry c := by
    rw [Pipeline.ownSems0_none, Pipeline.prefHeld_of_none _ rfl]
    iintro ⟨⟨Ha, %W, %hW, HO⟩, -, -⟩
    imodintro
    isplitl [Ha]; · iexact Ha
    isplitr; · iempintro
    isplitl [HO]
    · iexists W; isplitr
      swap; · iexact HO
      ipureintro; exact fun p hp => Or.inl (hW p hp)
    isplitr <;> iempintro
  hin c := by
    rw [Pipeline.prefHeld_of_none _ rfl]
    refine (show _ ⊢ Pipeline.scopedRest (Val := Elt F) spec0 c from ?_).trans ?_
    · iintro ⟨-, -, H⟩; iexact H
    rw [scopedRest0_eq]
    show _ ⊢ iprop(∃ d, owns (c : Thread nD τ) accM fullShare d)
    simp only [accM, owns_whole]; exact .rfl
  hout c := by
    rw [Pipeline.ownSems0_none]
    refine (show (data m 0 c).Φ (Fin.last cfg0.N) ⊢ Pipeline.scopedRest (Val := Elt F) spec0 c from ?_).trans ?_
    · rw [scopedRest0_eq, show (data m 0 c).Φ (Fin.last cfg0.N) = between m c cfg0.N le_rfl from rfl,
        between_pos m c cfg0.N le_rfl (by rw [show cfg0.N = 4 from N_0]; decide)]
      simp only [accM, owns_whole]
      iintro H; iexists _; iexact H
    · iintro H
      isplitr; · iempintro
      isplitr; · iempintro
      iexact H
  hexit c := by
    iintro ⟨Ha, ⟨%W, %hW, HO⟩, -, -⟩
    imodintro
    isplitl [Ha]; · iexact Ha
    iexists W; isplitr
    swap; · iexact HO
    ipureintro
    intro p hp
    rcases hW hp with h | ⟨w, s, rfl⟩
    · exact h
    · exact le_of_eq ((K (F := F)).lev_none _)

end Cert.Proof.Ker

end
-- ==== Proof.ScValues.lean ====
/- What the SparseCore kernel computes from the array of lengths and the restored array, as plain functions: the word
   each position of the packed array ends with, and the row each row of the gathered array is a copy of. -/
module

public import proofs.«01_k».proof.Proof.Setup

@[expose] public section

noncomputable section

namespace Cert.Proof.Ker

open Cert.KernelIdeal Cert.KernelIdeal.Gen
open Idealize.ShloMosaic Idealize.ShloMosaic.ValueIdx
open Cert.Proof.Rank

variable {F : FTy → Type}

/-- The lengths as sixteen words. -/
def words (fL : Vec F S1x16 .i32) (i : Fin 16) : BitVec 32 := fL (ix2 0 i)

/-- The index of the last valid row of a sequence of length `w`: `w - 1`, or 0 where the length is 0. -/
def lastWord (w : BitVec 32) : BitVec 32 := Scalar.maxsi (Scalar.subi w 1#32) 0#32

/-- The same index, cut off at the number of rows. -/
def lastRow (w : BitVec 32) : Fin 4096 := ⟨min (lastWord w).toNat 4095, by omega⟩

/-- The word the packed array holds for a position: its rank, and below it how many lengths are positive. -/
def packedWord (fL : Vec F S1x16 .i32) (i : Fin 16) : BitVec 32 :=
  Scalar.addi (Scalar.muli (BitVec.ofNat 32 (rank (words fL) i)) 65536#32) (BitVec.ofNat 32 (positives (words fL) 16))

/-- The packed array. -/
def packed (fL : Vec F S1x16 .i32) : Vec F S16 .i32 := fun y => packedWord fL (y 0)

/-- Row `j` of the gathered array: the last valid row of the sequence that is `j`-th in sorted order. -/
def gathered (fL : Vec F S1x16 .i32) (fR : Vec F S16x4096x128 .f32) : Vec F S16x128 .f32 := fun y =>
  fR (ix3 (order (words fL) (y 0)) (lastRow (words fL (order (words fL) (y 0)))) (y 1))

/-- The last word of a length of at most 4096. -/
theorem lastWord_toNat {w : BitVec 32} (h : w.toNat ≤ 4096) : (lastWord w).toNat = w.toNat - 1 := by
  unfold lastWord Scalar.maxsi Scalar.subi IntOp.maxsi IntOp.subi
  have hz : (0#32 : BitVec 32).toInt = 0 := by decide
  rcases Nat.eq_zero_or_pos w.toNat with h0 | h0
  · have : w = 0#32 := BitVec.eq_of_toNat_eq h0
    subst this; decide
  · have hn : (w - 1#32).toNat = w.toNat - 1 := by bv_omega
    have hi : (w - 1#32).toInt = (w.toNat - 1 : ℕ) := by
      rw [BitVec.toInt_eq_toNat_of_lt (by omega), hn]
    rw [BitVec.slt, hz, hi]
    split
    · exact hn
    · rename_i hs
      rw [decide_eq_true_eq] at hs
      have : w.toNat = 1 := by omega
      rw [this]; rfl

/-- A length of at most 4096 has a last row below 4096. -/
theorem lastWord_lt {w : BitVec 32} (h : w.toNat ≤ 4096) : (lastWord w).toNat < 4096 := by
  have e : (lastWord w).toNat = w.toNat - 1 := lastWord_toNat h
  omega

/-- The row index of a last valid row is one less than the length, and 0 for a length of 0. -/
theorem lastRow_val {w : BitVec 32} (h : w.toNat ≤ 4096) : (lastRow w).val = (lastWord w).toNat :=
  min_eq_left (Nat.le_of_lt_succ (lastWord_lt h))

end Cert.Proof.Ker

end
-- ==== Proof.ScBody.lean ====
/- The SparseCore kernel's run on its sequencer. -/
module

public import proofs.«01_k».proof.Proof.ScValues

@[expose] public section

noncomputable section

namespace Cert.Proof.Ker

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rank

variable {F : FTy → Type} [FloatOps F]

local notation "𝕄" => MT nD τ sig (HIx 1) (Elt F) ℕ UU ℕ

variable (d : Dev nD)

def coordsS (c : Fin (grid1.bound 0)) : grid1.Coords := fun | 0 => c | ⟨_ + 1, h⟩ => absurd h (Nat.not_lt.2 (Nat.le_add_left _ _))

/-- The sequencer that runs the kernel. -/
abbrev S0 (h : 0 < grid1.bound 0) : Thread nD τ := S d ((⟨0, h⟩ : Fin (grid1.bound 0)).castLE hcore1)

/-! ## One cell of a sixteen-word buffer -/

omit [FloatOps F] in
/-- A load of the one cell at offset `n` reads cell `n`. -/
theorem cell_read {κ : Kind} {sp : Space} (v : View sig κ sp S16 .i32) (f : v.ty.Contents (Elt F)) {off : Fin 1 → ℕ} {n : ℕ} (hn : n < 16)
    (ho : off = ![n]) (inb : ∀ a, off a + S1.size a ≤ S16.size a) (x : S1.Idx) :
    View.readAt (Elt F) v (Rect.unit (s := S16) off S1.size inb).toLoadRect f x = v.read (Elt F) f (ix1 ⟨n, hn⟩) := by
  subst ho
  rw [View.readAt_apply]
  congr 1
  funext a
  have hx : (x a).val = 0 := by
    have := (x a).isLt
    fin_cases a
    exact Nat.lt_one_iff.mp this
  fin_cases a
  apply Fin.ext
  show n + 1 * (x 0).val = n
  rw [show (x 0).val = 0 from hx]
  omega

omit [FloatOps F] in
/-- After a store of `p` into the one cell at offset `n`, cell `n` reads `p` and every other cell what it read before. -/
theorem cell_write {κ : Kind} {sp : Space} (v : View sig κ sp S16 .i32) (f : v.ty.Contents (Elt F)) {off : Fin 1 → ℕ} {n : ℕ}
    (ho : off = ![n]) (inb : ∀ a, off a + S1.size a ≤ S16.size a) (p : BitVec 32) (i : Fin 16) :
    v.read (Elt F) (v.writes (Elt F) f [(⟨Rect.unit (s := S16) off S1.size inb, fun _ => p⟩ : View.Piece (Elt F) S16 .i32)]) (ix1 i)
      = if i.val = n then p else v.read (Elt F) f (ix1 i) := by
  subst ho
  exact View.read_writes_cons_cell v f inb p [] (ix1 i)

theorem trips16 : Scf.trips k1_t1_loop.lb k1_t1_loop.ub k1_t1_loop.st = 16 := by decide

/-- A word below 16 passes the bound check of the store at its rank. -/
theorem chk1_of {n : ℕ} (hn : n < 16) : k1_chk1 (BitVec.ofNat 32 n) := by
  intro a
  fin_cases a
  show (BitVec.ofNat 32 n).toNat + 1 ≤ 16
  rw [BitVec.toNat_ofNat, Nat.mod_eq_of_lt (by omega)]
  omega

theorem off3_of {n : ℕ} (hn : n < 16) : k1_off3 (BitVec.ofNat 32 n) = ![n] := by
  show ![(BitVec.ofNat 32 n).toNat] = ![n]
  rw [BitVec.toNat_ofNat, Nat.mod_eq_of_lt (by omega)]

theorem iv_eq (n : ℕ) : Scf.iv (0#32) (1#32) n = BitVec.ofNat 32 n := by
  unfold Scf.iv
  simp

theorem iv_eq' (n : ℕ) : Scalar.addi (0#32) (Scalar.muli (Scf.iv (0#32) (1#32) n) 1#32) = BitVec.ofNat 32 n := by
  rw [iv_eq]
  simp [Scalar.addi, Scalar.muli, IntOp.addi, IntOp.muli]

/-! ## The ranks -/

/-- The body of the outer loop at the kernel's own memrefs. -/
abbrev body1 (h : 0 < grid1.bound 0) := k1_t1_body (F := F) (coordsS ⟨0, h⟩) (Memref.whole main_v0_1_scs) (Memref.isWhole_whole _) (Memref.whole main_v0_0_scs) (Memref.isWhole_whole _)
  (Memref.whole main_v1_0_scs) (Memref.isWhole_whole _) (Memref.whole main_v1_1_scs) (Memref.isWhole_whole _) (Memref.whole cc1_scratch0) (Memref.isWhole_whole _)
  (Memref.whole cc1_scratch1) (Memref.isWhole_whole _) (Memref.whole cc1_scratch2) (Memref.isWhole_whole _) cc1_scratch3 cc1_scratch4 cc1_scratch5

/-- The rank loop's invariant: the lengths' buffer unchanged, the count so far in the carried word. -/
def inv2 (h : 0 < grid1.bound 0) (g5 : Vec F S16 .i32) (L : Fin 16 → BitVec 32) (i : Fin 16) (k : Nat) (acc : BitVec 32) : sProp 𝕄 :=
  iprop(⌜acc = BitVec.ofNat 32 (counted L i k)⌝ ∗ ((Memref.whole cc1_scratch0).view.loc (S0 d h) ↦{fullShare} g5))

/-- The outer loop's invariant: for every position below `k`, its rank stored at it and it stored at its rank. -/
def inv1 (h : 0 < grid1.bound 0) (g5 : Vec F S16 .i32) (L : Fin 16 → BitVec 32) (k : Nat) (_ : PUnit.{1}) : sProp 𝕄 :=
  iprop(((Memref.whole cc1_scratch0).view.loc (S0 d h) ↦{fullShare} g5)
    ∗ (∃ f6 : Vec F S16 .i32, ⌜∀ i : Fin 16, i.val < k → f6 (ix1 (place L i)) = BitVec.ofNat 32 i.val⌝ ∗ ((Memref.whole cc1_scratch1).view.loc (S0 d h) ↦{fullShare} f6))
    ∗ (∃ f7 : Vec F S16 .i32, ⌜∀ i : Fin 16, i.val < k → f7 (ix1 i) = BitVec.ofNat 32 (rank L i)⌝ ∗ ((Memref.whole cc1_scratch2).view.loc (S0 d h) ↦{fullShare} f7)))

/-- The double loop that ranks the lengths: it leaves every position's rank and every rank's position. -/
theorem loop1 (h : 0 < grid1.bound 0) (g5 : Vec F S16 .i32) (L : Fin 16 → BitVec 32) (hg : ∀ i, g5 (ix1 i) = L i) :
    (inv1 (F := F) d h g5 L 0 ⟨⟩)
      ⊢ wp frame (wpE (defs₀ (F := F)) 𝒱₀ (S0 d h) none) Set.univ
          (Scf.Loop.for k1_t1_loop k1_t1_ok ⟨⟩ (body1 (F := F) h))
          (fun r => inv1 (F := F) d h g5 L 16 r) := by
  iintro H
  sl_for (inv1 d h g5 L) $$ [H]
  case region =>
    intro k _
    have hk : k.val < 16 := trips16 ▸ k.isLt
    unfold inv1
    iintro ⟨H5, ⟨%f6, %h6, H6⟩, ⟨%f7, %h7, H7⟩⟩
    sl_exec
    sl_for (inv2 d h g5 L ⟨k.val, hk⟩) $$ [H5]
    case region =>
      intro j acc
      have hj : j.val < 16 := trips16 ▸ j.isLt
      unfold inv2
      iintro ⟨%hacc, H5⟩
      sl_exec
      sl_step
      isplitr
      · ipureintro
        rw [← counted_step L ⟨k.val, hk⟩ j.val hj, ← iv_eq j.val, ← iv_eq' k.val, ← hg, ← hg]
        unfold loop1.sl.v29 loop1.sl.v28 loop1.sl.v27 loop1.sl.v26 loop1.sl.v25 loop1.sl.v24 loop1.sl.v23 loop1.sl.v22 loop1.sl.r loop1.sl.r_1
        rw [cell_read _ _ hj (k1_off2_eq j), cell_read _ _ hk (k1_off1_eq k), hacc]
        rfl
      · iexact H5
    · unfold inv2
      isplitr
      · ipureintro; rw [counted_zero]
      · iexact H5
    iintro %w HI
    unfold inv2
    icases HI with ⟨%hw, H5⟩
    have hw : w = BitVec.ofNat 32 (rank L ⟨k.val, hk⟩) := hw.trans (congrArg _ (counted_all L _))
    subst hw
    have hr := rank_lt L ⟨k.val, hk⟩
    have hc := chk1_of hr
    sl_exec
    sl_step
    isplitl [H5]; · iexact H5
    isplitl [H6]
    · iexists _
      isplitr [H6]
      swap
      · iexact H6
      · ipureintro
        intro i hi
        refine (cell_write (Memref.whole cc1_scratch1).view f6 (off3_of hr) _ _ (place L i)).trans ?_
        rw [place_val]
        by_cases e : i.val = k.val
        · have e' : i = ⟨k.val, hk⟩ := Fin.ext e
          rw [if_pos (by rw [e']), e]
          exact iv_eq' _
        · rw [if_neg (fun e' => e (congrArg Fin.val (rank_injective L (Fin.ext e' : (⟨rank L i, rank_lt L i⟩ : Fin 16) = ⟨_, hr⟩))))]
          exact h6 i (by omega)
    · iexists _
      isplitr [H7]
      swap
      · iexact H7
      · ipureintro
        intro i hi
        refine (cell_write (Memref.whole cc1_scratch2).view f7 (k1_off1_eq k) _ _ i).trans ?_
        by_cases e : i.val = k.val
        · have e' : i = ⟨k.val, hk⟩ := Fin.ext e
          rw [if_pos e, e']
        · rw [if_neg e]
          exact h7 i (by omega)
  isplitl [H]
  · iexact H
  · iintro %w HI
    iexact HI

/-! ## The number of positive lengths -/

/-- The body of the counting loop at the kernel's own memrefs. -/
abbrev body3 (h : 0 < grid1.bound 0) := k1_t3_body (F := F) (coordsS ⟨0, h⟩) (Memref.whole main_v0_1_scs) (Memref.isWhole_whole _) (Memref.whole main_v0_0_scs) (Memref.isWhole_whole _)
  (Memref.whole main_v1_0_scs) (Memref.isWhole_whole _) (Memref.whole main_v1_1_scs) (Memref.isWhole_whole _) (Memref.whole cc1_scratch0) (Memref.isWhole_whole _)
  (Memref.whole cc1_scratch1) (Memref.isWhole_whole _) (Memref.whole cc1_scratch2) (Memref.isWhole_whole _) cc1_scratch3 cc1_scratch4 cc1_scratch5

/-- The counting loop's invariant. -/
def inv3 (h : 0 < grid1.bound 0) (g5 : Vec F S16 .i32) (L : Fin 16 → BitVec 32) (k : Nat) (acc : BitVec 32) : sProp 𝕄 :=
  iprop(⌜acc = BitVec.ofNat 32 (positives L k)⌝ ∗ ((Memref.whole cc1_scratch0).view.loc (S0 d h) ↦{fullShare} g5))

/-- The loop that counts the positive lengths. -/
theorem loop3 (h : 0 < grid1.bound 0) (g5 : Vec F S16 .i32) (L : Fin 16 → BitVec 32) (hg : ∀ i, g5 (ix1 i) = L i) :
    ((Memref.whole cc1_scratch0).view.loc (S0 d h) ↦{fullShare} g5 : sProp 𝕄)
      ⊢ wp frame (wpE (defs₀ (F := F)) 𝒱₀ (S0 d h) none) Set.univ
          (Scf.Loop.for k1_t3_loop k1_t3_ok 0#32 (body3 (F := F) h))
          (fun r => inv3 (F := F) d h g5 L 16 r) := by
  iintro H5
  sl_for (inv3 d h g5 L) $$ [H5]
  case region =>
    intro k acc
    have hk : k.val < 16 := trips16 ▸ k.isLt
    unfold inv3
    iintro ⟨%hacc, H5⟩
    sl_exec
    sl_step
    isplitr
    · ipureintro
      rw [← positives_step L k.val hk, ← hg]
      unfold loop3.sl.v14 loop3.sl.v13 loop3.sl.v12 loop3.sl.r
      rw [cell_read _ _ hk (k1_off4_eq k), hacc]
      rfl
    · iexact H5
  isplitl [H5]
  · unfold inv3
    isplitr
    · ipureintro; rw [positives_zero]
    · iexact H5
  · iintro %w HI
    iexact HI

/-! ## The packed words -/

/-- The body of the packing loop at the kernel's own memrefs. -/
abbrev body4 (h : 0 < grid1.bound 0) (w : BitVec 32) := k1_t4_body (F := F) (coordsS ⟨0, h⟩) (Memref.whole main_v0_1_scs) (Memref.isWhole_whole _) (Memref.whole main_v0_0_scs) (Memref.isWhole_whole _)
  (Memref.whole main_v1_0_scs) (Memref.isWhole_whole _) (Memref.whole main_v1_1_scs) (Memref.isWhole_whole _) (Memref.whole cc1_scratch0) (Memref.isWhole_whole _)
  (Memref.whole cc1_scratch1) (Memref.isWhole_whole _) (Memref.whole cc1_scratch2) (Memref.isWhole_whole _) cc1_scratch3 cc1_scratch4 cc1_scratch5 w

/-- The packing loop's invariant: the positions below `k` packed, the others still their ranks. -/
def inv4 (h : 0 < grid1.bound 0) (L : Fin 16 → BitVec 32) (w : BitVec 32) (k : Nat) (_ : PUnit.{1}) : sProp 𝕄 :=
  iprop(∃ f7 : Vec F S16 .i32, ⌜∀ i : Fin 16, f7 (ix1 i)
      = if i.val < k then Scalar.addi (Scalar.muli (BitVec.ofNat 32 (rank L i)) 65536#32) w else BitVec.ofNat 32 (rank L i)⌝
    ∗ ((Memref.whole cc1_scratch2).view.loc (S0 d h) ↦{fullShare} f7))

/-- The loop that packs each rank with the count. -/
theorem loop4 (h : 0 < grid1.bound 0) (L : Fin 16 → BitVec 32) (w : BitVec 32) (f7 : Vec F S16 .i32) (hf : ∀ i : Fin 16, f7 (ix1 i) = BitVec.ofNat 32 (rank L i)) :
    ((Memref.whole cc1_scratch2).view.loc (S0 d h) ↦{fullShare} f7 : sProp 𝕄)
      ⊢ wp frame (wpE (defs₀ (F := F)) 𝒱₀ (S0 d h) none) Set.univ
          (Scf.Loop.for k1_t4_loop k1_t4_ok ⟨⟩ (body4 (F := F) h w))
          (fun r => inv4 (F := F) d h L w 16 r) := by
  iintro H7
  sl_for (inv4 d h L w) $$ [H7]
  case region =>
    intro k acc
    have hk : k.val < 16 := trips16 ▸ k.isLt
    unfold inv4
    iintro ⟨%f, %hf, H7⟩
    sl_exec
    sl_step
    iexists _
    isplitr [H7]
    swap
    · iexact H7
    · ipureintro
      intro i
      refine (cell_write (Memref.whole cc1_scratch2).view f (k1_off5_eq k) _ _ i).trans ?_
      by_cases e : i.val = k.val
      · have e' : i = ⟨k.val, hk⟩ := Fin.ext e
        rw [if_pos e, if_pos (by omega), e']
        unfold loop4.sl.v15 loop4.sl.v14 loop4.sl.r
        rw [cell_read _ _ hk (k1_off5_eq k)]
        show Scalar.addi (Scalar.muli (f (ix1 ⟨k.val, hk⟩)) 65536#32) w = _
        rw [hf, if_neg (Nat.lt_irrefl _)]
      · rw [if_neg e]
        refine (hf i).trans ?_
        by_cases e' : i.val < k.val
        · rw [if_pos e', if_pos (by omega)]
        · rw [if_neg e', if_neg (by omega)]
  isplitl [H7]
  · unfold inv4
    iexists f7
    isplitr [H7]
    · ipureintro
      intro i
      rw [hf, if_neg (Nat.not_lt_zero _)]
    · iexact H7
  · iintro %w HI
    iexact HI

end Cert.Proof.Ker

end
-- ==== Proof.ScGather.lean ====
/- The sixteen row copies of the SparseCore kernel: each copies the last valid row of one sequence into one row of the
   gathered array; all are started on one semaphore and then waited for. -/
module

public import proofs.«01_k».proof.Proof.ScBody

@[expose] public section

noncomputable section

namespace Cert.Proof.Ker

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rank

variable {F : FTy → Type} [FloatOps F]

local notation "𝕄" => MT nD τ sig (HIx 1) (Elt F) ℕ UU ℕ

variable (d : Dev nD)

/-! ## The rows -/

/-- The row of the gathered array that trip `k` writes. -/
abbrev dstM (k : Fin k1_t5_loop.trips) : Memref sig .scScalar .hbm S128 .f32 :=
  ((Memref.whole main_v1_1_scs).slice (Rect.unit (s := S16x128) (k1_off8 k) S1x128.size (k1_off8_inb k)) (fun _ => rfl)).squeeze S128 squeezes_S1x128_S128

/-- The row of the restored array at the sequence `v` and the last row of a sequence of length `w`. -/
abbrev srcM (v w : BitVec 32) (hw : k1_chk3 v w) : Memref sig .scScalar .hbm S128 .f32 :=
  ((Memref.whole main_v0_0_scs).slice (Rect.unit (s := S16x4096x128) (k1_off9 v w) S1x1x128.size (k1_off9_inb v w hw)) (fun _ => rfl)).squeeze S128 squeezes_S1x1x128_S128

theorem unit_row (h : S128.numel = S1x128.numel) (y : Fin 128) : Shape.reshapeEquiv h (ix1 y) = (ix2 0 y : S1x128.Idx) :=
  Shape.reshapeEquiv_eq_of_rowMajor h (by
    rw [Shape.rowMajor_val_two, Shape.rowMajor_val_one]
    show 0 * 128 + y.val = y.val
    omega)

theorem unit_row' (h : S128.numel = S1x1x128.numel) (y : Fin 128) : Shape.reshapeEquiv h (ix1 y) = (ix3 0 0 y : S1x1x128.Idx) :=
  Shape.reshapeEquiv_eq_of_rowMajor h (by
    rw [Shape.rowMajor_val_three, Shape.rowMajor_val_one]
    show (0 * 1 + 0) * 128 + y.val = y.val
    omega)

/-- Trip `k`'s destination lies at row `k`. -/
theorem dstM_emb (k : Fin k1_t5_loop.trips) (y : S128.Idx) (hk : k.val < 16) :
    (dstM k).view.emb y = (ix2 ⟨k.val, hk⟩ (y 0) : S16x128.Idx) := by
  have ey : y = ix1 (y 0) := eq_ix1 y
  refine (congrArg (dstM k).view.emb ey).trans ?_
  show (Rect.unit (s := S16x128) (k1_off8 k) S1x128.size (k1_off8_inb k)).emb (Shape.reshapeEquiv _ (ix1 (y 0))) = _
  refine (congrArg _ (unit_row _ (y 0))).trans ?_
  funext a
  apply Fin.ext
  show k1_off8 k a + 1 * ((ix2 0 (y 0) : S1x128.Idx) a).val = _
  rw [k1_off8_eq]
  fin_cases a
  · show k.val + 1 * 0 = k.val
    omega
  · show 0 + 1 * (y 0).val = (y 0).val
    omega

/-- The source for row `t` lies at the sequence that is `t`-th in sorted order, at its last row. -/
theorem srcM_emb (L : Fin 16 → BitVec 32) (hL : ∀ i, (L i).toNat ≤ 4096) (t : Fin 16)
    (hw : k1_chk3 (BitVec.ofNat 32 (order L t).val) (L (order L t))) (y : S128.Idx) :
    (srcM (BitVec.ofNat 32 (order L t).val) (L (order L t)) hw).view.emb y
      = (ix3 (order L t) (lastRow (L (order L t))) (y 0) : S16x4096x128.Idx) := by
  have hv : (BitVec.ofNat 32 (order L t).val).toNat = (order L t).val := by
    rw [BitVec.toNat_ofNat, Nat.mod_eq_of_lt (by have := (order L t).isLt; omega)]
  have ey : y = ix1 (y 0) := eq_ix1 y
  refine (congrArg (srcM _ _ hw).view.emb ey).trans ?_
  show (Rect.unit (s := S16x4096x128) (k1_off9 _ _) S1x1x128.size (k1_off9_inb _ _ hw)).emb (Shape.reshapeEquiv _ (ix1 (y 0))) = _
  refine (congrArg _ (unit_row' _ (y 0))).trans ?_
  funext a
  apply Fin.ext
  fin_cases a
  · show (BitVec.ofNat 32 (order L t).val).toNat + 1 * 0 = (order L t).val
    omega
  · show (lastWord (L (order L t))).toNat + 1 * 0 = (lastRow (L (order L t))).val
    rw [lastRow_val (hL _)]
    omega
  · show 0 + 1 * (y 0).val = (y 0).val
    omega

/-- Row `t` of the gathered array. -/
def rowSet (t : Fin 16) : Finset S16x128.Idx := Finset.univ.filter fun x => (x 0).val = t.val

theorem mem_rowSet {t : Fin 16} {x : S16x128.Idx} : x ∈ rowSet t ↔ x 0 = t := by
  unfold rowSet
  rw [Finset.mem_filter]
  exact ⟨fun e => Fin.ext e.2, fun e => ⟨Finset.mem_univ _, congrArg Fin.val e⟩⟩

/-- The row of the restored array that goes to row `t` of the gathered array. -/
def srcSet (L : Fin 16 → BitVec 32) (t : Fin 16) : Finset S16x4096x128.Idx :=
  Finset.univ.filter fun x => (x 0).val = (order L t).val ∧ (x 1).val = (lastRow (L (order L t))).val

theorem mem_srcSet {L : Fin 16 → BitVec 32} {t : Fin 16} {x : S16x4096x128.Idx} :
    x ∈ srcSet L t ↔ x 0 = order L t ∧ x 1 = lastRow (L (order L t)) := by
  unfold srcSet
  rw [Finset.mem_filter]
  exact ⟨fun e => ⟨Fin.ext e.2.1, Fin.ext e.2.2⟩, fun e => ⟨Finset.mem_univ _, congrArg Fin.val e.1, congrArg Fin.val e.2⟩⟩

theorem rowSet_disjoint (t t' : Fin 16) (h : t ≠ t') : Disjoint (rowSet t) (rowSet t') := by
  rw [Finset.disjoint_left]
  intro x hx hx'
  exact h ((mem_rowSet.mp hx).symm.trans (mem_rowSet.mp hx'))

theorem rowSet_cover : Finset.univ.biUnion rowSet = Finset.univ := by
  ext x
  simp only [Finset.mem_biUnion, Finset.mem_univ, true_and, iff_true]
  exact ⟨x 0, mem_rowSet.mpr rfl⟩

theorem srcSet_disjoint (L : Fin 16 → BitVec 32) (t t' : Fin 16) (h : t ≠ t') : Disjoint (srcSet L t) (srcSet L t') := by
  rw [Finset.disjoint_left]
  intro x hx hx'
  exact h (order_injective L ((mem_srcSet.mp hx).1.symm.trans (mem_srcSet.mp hx').1))

theorem dstM_subset (k : Fin k1_t5_loop.trips) (hk : k.val < 16) : (dstM k).view.set ⊆ rowSet ⟨k.val, hk⟩ := by
  intro x hx
  obtain ⟨y, -, rfl⟩ := Finset.mem_map.mp hx
  exact mem_rowSet.mpr (congrFun (dstM_emb k y hk) 0)

theorem srcM_set (L : Fin 16 → BitVec 32) (hL : ∀ i, (L i).toNat ≤ 4096) (t : Fin 16)
    (hw : k1_chk3 (BitVec.ofNat 32 (order L t).val) (L (order L t))) :
    (srcM (BitVec.ofNat 32 (order L t).val) (L (order L t)) hw).view.set = srcSet L t := by
  ext x
  constructor
  · intro hx
    obtain ⟨y, -, rfl⟩ := Finset.mem_map.mp hx
    exact mem_srcSet.mpr ⟨congrFun (srcM_emb L hL t hw y) 0, congrFun (srcM_emb L hL t hw y) 1⟩
  · intro hx
    obtain ⟨h0, h1⟩ := mem_srcSet.mp hx
    refine Finset.mem_map.mpr ⟨ix1 (n := 128) (x 2), Finset.mem_univ _, (srcM_emb L hL t hw _).trans ?_⟩
    exact (congrArg₂ (fun a b => (ix3 a b (x 2) : S16x4096x128.Idx)) h0.symm h1.symm).trans (eq_ix3 x).symm

/-- What a copy of the row for `t` leaves in row `t` of the gathered array. -/
theorem copied (fL : Vec F S1x16 .i32) (fR : Vec F S16x4096x128 .f32) (hL : ∀ i, (words fL i).toNat ≤ 4096)
    (k : Fin k1_t5_loop.trips) (hk : k.val < 16) (hw : k1_chk3 (BitVec.ofNat 32 (order (words fL) ⟨k.val, hk⟩).val) (words fL (order (words fL) ⟨k.val, hk⟩)))
    (f0 : Vec F S16x128 .f32) (x : S16x128.Idx) (hx : x ∈ rowSet ⟨k.val, hk⟩) :
    (dstM k).view.write (Elt F) f0 ((srcM _ _ hw).view.read (Elt F) fR) Finset.univ x = gathered fL fR x := by
  have h0 : x 0 = ⟨k.val, hk⟩ := mem_rowSet.mp hx
  have hxe : (dstM k).view.emb (ix1 (n := 128) (x 1)) = x := by
    exact (dstM_emb k _ hk).trans ((congrArg (fun a => (ix2 a (x 1) : S16x128.Idx)) h0.symm).trans (eq_ix2 x).symm)
  rw [← hxe, View.write_emb_of_mem _ _ (Finset.mem_univ _), hxe]
  show fR ((srcM _ _ hw).view.emb (ix1 (n := 128) (x 1))) = _
  refine (congrArg fR (srcM_emb (words fL) hL ⟨k.val, hk⟩ hw _)).trans ?_
  unfold gathered
  rw [h0]
  rfl

/-! ## The copies -/

/-- The units one row copy signals. -/
def rowUnits : ℕ := (dstM ⟨0, by decide⟩).view.dmaCredit

theorem rowUnits_pos : 0 < rowUnits := by decide

/-- The transfers' counters in the algebra. -/
abbrev EC : UEmb Counters 𝕄 := countersEmb

/-- What copy `t` delivers: row `t` of the gathered array written, and the row it was read from. -/
def deliv (h : 0 < grid1.bound 0) (fL : Vec F S1x16 .i32) (fR : Vec F S16x4096x128 .f32) (t : Fin 16) : sProp 𝕄 :=
  iprop(((Memref.whole main_v1_1_scs).view.loc (S0 d h) ↦[rowSet t]{fullShare} (gathered fL fR : Vec F S16x128 .f32))
    ∗ ((Memref.whole main_v0_0_scs).view.loc (S0 d h) ↦[srcSet (words fL) t]{fullShare} fR))

instance (h : 0 < grid1.bound 0) (fL : Vec F S1x16 .i32) (fR : Vec F S16x4096x128 .f32) (t : Fin 16) :
    Storable (upEmb : UEmb _ 𝕄) (deliv (F := F) d h fL fR t) := by unfold deliv; infer_instance

/-- The sixteen copies with `k` started and `u` units waited for. -/
abbrev copies (h : 0 < grid1.bound 0) (fL : Vec F S1x16 .i32) (fR : Vec F S16x4096x128 .f32) (k u : ℕ) : sProp 𝕄 :=
  Transfers.Batch (EC (F := F)) (S0 d h) (.dma cc1_scratch5.sem) default rowUnits (deliv (F := F) d h fL fR) k u

/-- The body of the loop that starts the copies, at the kernel's own memrefs. -/
abbrev body5 (h : 0 < grid1.bound 0) := k1_t5_body (F := F) (coordsS ⟨0, h⟩) (Memref.whole main_v0_1_scs) (Memref.isWhole_whole _) (Memref.whole main_v0_0_scs) (Memref.isWhole_whole _)
  (Memref.whole main_v1_0_scs) (Memref.isWhole_whole _) (Memref.whole main_v1_1_scs) (Memref.isWhole_whole _) (Memref.whole cc1_scratch0) (Memref.isWhole_whole _)
  (Memref.whole cc1_scratch1) (Memref.isWhole_whole _) (Memref.whole cc1_scratch2) (Memref.isWhole_whole _) cc1_scratch3 cc1_scratch4 cc1_scratch5

/-- The starting loop's invariant: the copies below `k` started, the rows of the others in hand. -/
def inv5 (h : 0 < grid1.bound 0) (fL : Vec F S1x16 .i32) (fR : Vec F S16x4096x128 .f32) (f0 : Vec F S16x128 .f32) (g5 f6 : Vec F S16 .i32)
    (k : Nat) (_ : PUnit.{1}) : sProp 𝕄 :=
  iprop(((Memref.whole cc1_scratch0).view.loc (S0 d h) ↦{fullShare} g5)
    ∗ ((Memref.whole cc1_scratch1).view.loc (S0 d h) ↦{fullShare} f6)
    ∗ bigSep (Transfers.pending k) (fun t : Fin 16 => (Memref.whole main_v1_1_scs).view.loc (S0 d h) ↦[rowSet t]{fullShare} f0)
    ∗ bigSep (Transfers.pending k) (fun t : Fin 16 => (Memref.whole main_v0_0_scs).view.loc (S0 d h) ↦[srcSet (words fL) t]{fullShare} fR)
    ∗ copies (F := F) d h fL fR k 0)

/-- A position passes the bound check of the load of its length. -/
theorem chk2_of (i : Fin 16) : k1_chk2 (BitVec.ofNat 32 i.val) := by
  intro a
  fin_cases a
  show (BitVec.ofNat 32 i.val).toNat + 1 ≤ 16
  rw [BitVec.toNat_ofNat, Nat.mod_eq_of_lt (by omega)]
  omega

theorem off7_of (i : Fin 16) : k1_off7 (BitVec.ofNat 32 i.val) = ![i.val] := by
  show ![(BitVec.ofNat 32 i.val).toNat] = ![i.val]
  rw [BitVec.toNat_ofNat, Nat.mod_eq_of_lt (by omega)]

/-- A position and a length of at most 4096 pass the bound check of the copy. -/
theorem chk3_of (i : Fin 16) {w : BitVec 32} (hw : w.toNat ≤ 4096) : k1_chk3 (BitVec.ofNat 32 i.val) w := by
  intro a
  fin_cases a
  · show (BitVec.ofNat 32 i.val).toNat + 1 ≤ 16
    rw [BitVec.toNat_ofNat, Nat.mod_eq_of_lt (by omega)]
    omega
  · show (lastWord w).toNat + 1 ≤ 4096
    exact lastWord_lt hw
  · show 0 + 128 ≤ 128
    omega

/-- The loop that starts the sixteen copies. -/
theorem loop5 (h : 0 < grid1.bound 0) (fL : Vec F S1x16 .i32) (fR : Vec F S16x4096x128 .f32) (f0 : Vec F S16x128 .f32) (g5 f6 : Vec F S16 .i32)
    (hL : ∀ i, (words fL i).toNat ≤ 4096) (hg : ∀ i, g5 (ix1 i) = words fL i) (hf : ∀ i, f6 (ix1 i) = BitVec.ofNat 32 (order (words fL) i).val) :
    (inv5 (F := F) d h fL fR f0 g5 f6 0 ⟨⟩)
      ⊢ wp frame (wpE (defs₀ (F := F)) 𝒱₀ (S0 d h) none) Set.univ
          (Scf.Loop.for k1_t5_loop k1_t5_ok ⟨⟩ (body5 (F := F) h))
          (fun r => inv5 (F := F) d h fL fR f0 g5 f6 16 r) := by
  iintro H
  sl_for (inv5 d h fL fR f0 g5 f6) $$ [H]
  case region =>
    intro k acc
    have hk : k.val < 16 := trips16 ▸ k.isLt
    unfold inv5
    iintro ⟨H5, H6, Hd, Hs, HB⟩
    sl_exec
    have hr : loop5.sl.r f6 k = BitVec.ofNat 32 (order (words fL) ⟨k.val, hk⟩).val := by
      unfold loop5.sl.r
      exact (cell_read (Memref.whole cc1_scratch1).view f6 hk (k1_off6_eq k) _ _).trans (hf _)
    rw [hr]
    have hc2 := chk2_of (order (words fL) ⟨k.val, hk⟩)
    sl_exec
    have hr1 : loop5.sl.r_1 fL g5 k hk hc2 = words fL (order (words fL) ⟨k.val, hk⟩) := by
      unfold loop5.sl.r_1
      exact (cell_read (Memref.whole cc1_scratch0).view g5 (order (words fL) ⟨k.val, hk⟩).isLt (off7_of _) _ _).trans (hg _)
    rw [hr1]
    have hc3 := chk3_of (order (words fL) ⟨k.val, hk⟩) (hL (order (words fL) ⟨k.val, hk⟩))
    sl_exec
    ihave Hd := (Entails.of_eq (Transfers.bigSep_pending_step
      (fun t : Fin 16 => ((Memref.whole main_v1_1_scs).view.loc (S0 d h) ↦[rowSet t]{fullShare} f0 : sProp 𝕄)) k.val hk)) $$ Hd
    icases Hd with ⟨Hd0, Hd⟩
    ihave Hs := (Entails.of_eq (Transfers.bigSep_pending_step
      (fun t : Fin 16 => ((Memref.whole main_v0_0_scs).view.loc (S0 d h) ↦[srcSet (words fL) t]{fullShare} fR : sProp 𝕄)) k.val hk)) $$ Hs
    icases Hs with ⟨Hs0, Hs⟩
    have hset := srcM_set (words fL) hL ⟨k.val, hk⟩ hc3
    rw [← hset]
    iapply (Transfers.wp_dmaBatch (EC (F := F)) 𝒱₀ (S0 d h) none default rowUnits (dst := dstM k) (src := srcM _ _ hc3)
      (by rfl) (dstM_subset k hk) hk (Nat.zero_le _) (D := deliv (F := F) d h fL fR) (q := fullShare) (fs := fR) (fd := f0) ?_) $$ [Hs0 Hd0 HB]
    · unfold deliv
      rw [hset]
      exact sep_mono (Entails.of_eq (pointsTo_congr fun x hx => copied fL fR hL k hk hc3 f0 x hx)) .rfl
    · isplitl [Hs0]
      · iexact Hs0
      isplitl [Hd0]
      · iexact Hd0
      · iexact HB
    iintro HB
    sl_step
    isplitl [H5]; · iexact H5
    isplitl [H6]; · iexact H6
    isplitl [Hd]; · iexact Hd
    isplitl [Hs]; · iexact Hs
    iexact HB
  isplitl [H]
  · iexact H
  · iintro %w HI
    iexact HI

/-- The body of the loop that waits for the copies, at the kernel's own memrefs. -/
abbrev body6 (h : 0 < grid1.bound 0) := k1_t6_body (F := F) (coordsS ⟨0, h⟩) (Memref.whole main_v0_1_scs) (Memref.isWhole_whole _) (Memref.whole main_v0_0_scs) (Memref.isWhole_whole _)
  (Memref.whole main_v1_0_scs) (Memref.isWhole_whole _) (Memref.whole main_v1_1_scs) (Memref.isWhole_whole _) (Memref.whole cc1_scratch0) (Memref.isWhole_whole _)
  (Memref.whole cc1_scratch1) (Memref.isWhole_whole _) (Memref.whole cc1_scratch2) (Memref.isWhole_whole _) cc1_scratch3 cc1_scratch4 cc1_scratch5

/-- The waiting loop's invariant: `k` copies' units waited for, each wait recorded. -/
def inv6 (h : 0 < grid1.bound 0) (fL : Vec F S1x16 .i32) (fR : Vec F S16x4096x128 .f32) (O : CellTallies nD τ sig (HIx 1)) (W : Waits sig (HIx 1))
    (k : Nat) (_ : PUnit.{1}) : sProp 𝕄 :=
  iprop(Transfers.MayWaits (S0 d h) none O ∗ copies (F := F) d h fL fR 16 (k * rowUnits)
    ∗ ∃ W', ⌜∀ p ∈ W', p ∈ W ∨ p.2 = none⌝ ∗ owes (S0 d h) O W')

/-- The loop that waits for the sixteen copies. -/
theorem loop6 (h : 0 < grid1.bound 0) (fL : Vec F S1x16 .i32) (fR : Vec F S16x4096x128 .f32) (O : CellTallies nD τ sig (HIx 1)) (W : Waits sig (HIx 1)) :
    (inv6 (F := F) d h fL fR O W 0 ⟨⟩)
      ⊢ wp frame (wpE (defs₀ (F := F)) 𝒱₀ (S0 d h) none) Set.univ
          (Scf.Loop.for k1_t6_loop k1_t6_ok ⟨⟩ (body6 (F := F) h))
          (fun r => inv6 (F := F) d h fL fR O W 16 r) := by
  iintro H
  sl_for (inv6 d h fL fR O W) $$ [H]
  case region =>
    intro k acc
    have hk : k.val < 16 := trips16 ▸ k.isLt
    unfold inv6
    iintro ⟨#Hmw, HB, ⟨%W', %hW', HO⟩⟩
    sl_exec
    ihave Hm := (Transfers.MayWaits.elim (c := S0 d h) (ι := (none : HIx 1)) (O := O) (.dma cc1_scratch5.sem)) $$ Hmw
    iapply (Transfers.wp_waitBatchMulO (EC (F := F)) 𝒱₀ (S0 d h) none none (N := rowUnits) 1 (by rfl) (j := 16) (u := k.val * rowUnits)
      (D := deliv (F := F) d h fL fR) (by rw [Nat.mul_comm rowUnits 16, ← Nat.add_mul]; exact Nat.mul_le_mul_right _ hk) (O := O) (W := W')) $$ [HB HO Hm]
    · isplitl [HB]
      · iexact HB
      isplitl [HO]
      · iexact HO
      · iexact Hm
    iintro ⟨HB, HO⟩
    sl_step
    isplitr; · iexact Hmw
    isplitl [HB]
    · rw [show (k.val + 1) * rowUnits = k.val * rowUnits + 1 * rowUnits from Nat.succ_mul _ _ |>.trans (by rw [Nat.one_mul])]
      iexact HB
    iexists _
    isplitr [HO]
    swap
    · iexact HO
    · ipureintro
      intro p hp
      rcases Finset.mem_insert.mp hp with e | e
      · exact .inr (by rw [e])
      · exact hW' p e
  isplitl [H]
  · iexact H
  · iintro %w HI
    iexact HI

end Cert.Proof.Ker

end
-- ==== Proof.ScRun.lean ====
/- The SparseCore kernel from its start to its end, on the sequencer: what the arrays hold before and after. -/
module

public import proofs.«01_k».proof.Proof.ScGather
public import Idealize.ShloMosaic.Lib.Ring.FamCut

@[expose] public section

noncomputable section

namespace Cert.Proof.Ker

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rank

variable {F : FTy → Type} [FloatOps F]

local notation "𝕄" => MT nD τ sig (HIx 1) (Elt F) ℕ UU ℕ

variable (d : Dev nD)

/-- The kernel's arrays and scratch buffers as the sequencer addresses them. -/
abbrev lenAt (h : 0 < grid1.bound 0) (f : Vec F S1x16 .i32) : sProp 𝕄 := (Memref.whole main_v0_1_scs).view.loc (S0 d h) ↦{fullShare} f
abbrev resAt (h : 0 < grid1.bound 0) (f : Vec F S16x4096x128 .f32) : sProp 𝕄 := (Memref.whole main_v0_0_scs).view.loc (S0 d h) ↦{fullShare} f
abbrev rinvAt (h : 0 < grid1.bound 0) (f : Vec F S16 .i32) : sProp 𝕄 := (Memref.whole main_v1_0_scs).view.loc (S0 d h) ↦{fullShare} f
abbrev finAt (h : 0 < grid1.bound 0) (f : Vec F S16x128 .f32) : sProp 𝕄 := (Memref.whole main_v1_1_scs).view.loc (S0 d h) ↦{fullShare} f
abbrev scr0 (h : 0 < grid1.bound 0) (f : Vec F S16 .i32) : sProp 𝕄 := (Memref.whole cc1_scratch0).view.loc (S0 d h) ↦{fullShare} f
abbrev scr1 (h : 0 < grid1.bound 0) (f : Vec F S16 .i32) : sProp 𝕄 := (Memref.whole cc1_scratch1).view.loc (S0 d h) ↦{fullShare} f
abbrev scr2 (h : 0 < grid1.bound 0) (f : Vec F S16 .i32) : sProp 𝕄 := (Memref.whole cc1_scratch2).view.loc (S0 d h) ↦{fullShare} f

/-- A part of the program, then the rest from what the part leaves. -/
theorem wp_then (h : 0 < grid1.bound 0) {α β : Type} {p : Prog (TpuEff nD τ sig (Elt F) Λ₀ (S0 d h).2) α}
    {k : α → Prog (TpuEff nD τ sig (Elt F) Λ₀ (S0 d h).2) β} {Φ : α → sProp 𝕄} {Q : β → sProp 𝕄} :
    iprop(wp frame (wpE (defs₀ (F := F)) 𝒱₀ (S0 d h) none) Set.univ p Φ
        ∗ ∀ a, Φ a -∗ wp frame (wpE (defs₀ (F := F)) 𝒱₀ (S0 d h) none) Set.univ (k a) Q)
      ⊢ wp frame (wpE (defs₀ (F := F)) 𝒱₀ (S0 d h) none) Set.univ (do let a ← p; k a) Q :=
  (wp_wand_r frame (wpE (defs₀ (F := F)) 𝒱₀ (S0 d h) none) Set.univ).trans
    (Entails.of_eq (wp_bind frame (wpE (defs₀ (F := F)) 𝒱₀ (S0 d h) none) Set.univ p k Q).symm)

omit [FloatOps F] in
/-- The lengths' row read without its unit axis. -/
theorem squeezed (fL : Vec F S1x16 .i32) (i : Fin 16) :
    View.read (Elt F) (((Memref.whole main_v0_1_scs).slice (Rect.unit (s := S1x16) ![0, 0] S1x16.size inb_S1x16_S1x16_0_0) (fun _ => rfl)).squeeze S16 squeezes_S1x16_S16).view fL (ix1 i)
      = words fL i := by
  show fL ((Rect.unit (s := S1x16) ![0, 0] S1x16.size inb_S1x16_S1x16_0_0).emb (Shape.reshapeEquiv _ (ix1 i))) = fL (ix2 0 i)
  have e : ∀ hn : S16.numel = S1x16.numel, Shape.reshapeEquiv hn (ix1 i) = (ix2 0 i : S1x16.Idx) := fun hn =>
    Shape.reshapeEquiv_eq_of_rowMajor hn (by
      rw [Shape.rowMajor_val_two, Shape.rowMajor_val_one]
      show 0 * 16 + i.val = i.val
      omega)
  refine congrArg fL ((congrArg _ (e _)).trans ?_)
  funext a
  apply Fin.ext
  fin_cases a
  · rfl
  · show 0 + 1 * i.val = i.val
    omega

/-- The gathered array is its sixteen rows. -/
theorem fin_rows (h : 0 < grid1.bound 0) (f : Vec F S16x128 .f32) :
    (finAt (F := F) d h f) = bigSep Finset.univ fun t : Fin 16 => ((Memref.whole main_v1_1_scs).view.loc (S0 d h) ↦[rowSet t]{fullShare} f : sProp 𝕄) := by
  have e := pointsTo_biUnion (Name := ℕ) (U := UU) (Ix := HIx 1) (Lvl := ℕ) (Val := Elt F) (ℓ := (Memref.whole main_v1_1_scs).view.loc (S0 d h)) (q := fullShare) (f := f) Finset.univ rowSet (fun t _ t' _ e => rowSet_disjoint t t' e)
  rw [rowSet_cover] at e
  exact e

/-- The sixteen deliveries are the sixteen rows written and the sixteen rows lent. -/
theorem deliv_halves (h : 0 < grid1.bound 0) (fL : Vec F S1x16 .i32) (fR : Vec F S16x4096x128 .f32) :
    (bigSep Finset.univ (deliv (F := F) d h fL fR))
      = iprop((bigSep Finset.univ fun t : Fin 16 => ((Memref.whole main_v1_1_scs).view.loc (S0 d h) ↦[rowSet t]{fullShare} (gathered fL fR : Vec F S16x128 .f32) : sProp 𝕄))
        ∗ bigSep Finset.univ fun t : Fin 16 => ((Memref.whole main_v0_0_scs).view.loc (S0 d h) ↦[srcSet (words fL) t]{fullShare} fR : sProp 𝕄)) :=
  bigSep_sep Finset.univ _ _

/-- The lent rows and the rest of the restored array make the array. -/
theorem fam_join (h : 0 < grid1.bound 0) (L : Fin 16 → BitVec 32) (f : Vec F S16x4096x128 .f32) :
    iprop((bigSep Finset.univ fun t : Fin 16 => ((Memref.whole main_v0_0_scs).view.loc (S0 d h) ↦[srcSet L t]{fullShare} f : sProp 𝕄))
        ∗ ((Memref.whole main_v0_0_scs).view.loc (S0 d h) ↦[Ring.restOf (srcSet L)]{fullShare} f : sProp 𝕄)) ⊢ resAt (F := F) d h f := by
  rw [← pointsTo_biUnion (ℓ := (Memref.whole main_v0_0_scs).view.loc (S0 d h)) Finset.univ (srcSet L) (fun t _ t' _ e => srcSet_disjoint L t t' e)]
  exact (pointsTo_split_subset (Finset.subset_univ _)).2

/-- The kernel on its sequencer: from the lengths and the restored array it leaves the packed words and the gathered rows. -/
theorem sc_run (h : 0 < grid1.bound 0) (O : CellTallies nD τ sig (HIx 1)) (W : Waits sig (HIx 1))
    (fL : Vec F S1x16 .i32) (fR : Vec F S16x4096x128 .f32) (f3 : Vec F S16 .i32) (f4 : Vec F S16x128 .f32) (g0 g1 g2 : Vec F S16 .i32)
    (hL : ∀ i, (words fL i).toNat ≤ 4096) :
    iprop(Transfers.MayWaits (S0 d h) none O ∗ lenAt d h fL ∗ resAt d h fR ∗ rinvAt d h f3 ∗ finAt d h f4
        ∗ scr0 d h g0 ∗ scr1 d h g1 ∗ scr2 d h g2
        ∗ semVal (S0 d h, SemLoc.dma cc1_scratch3.sem) 0 ∗ semVal (S0 d h, SemLoc.dma cc1_scratch4.sem) 0 ∗ semVal (S0 d h, SemLoc.dma cc1_scratch5.sem) 0
        ∗ owes (S0 d h) O W)
      ⊢ wp frame (wpE (defs₀ (F := F)) 𝒱₀ (S0 d h) none) Set.univ
          (cc1__sc_fin_kernel (F := F) (coordsS ⟨0, h⟩) (Memref.whole main_v0_1_scs) (Memref.isWhole_whole _) (Memref.whole main_v0_0_scs) (Memref.isWhole_whole _)
            (Memref.whole main_v1_0_scs) (Memref.isWhole_whole _) (Memref.whole main_v1_1_scs) (Memref.isWhole_whole _) (Memref.whole cc1_scratch0) (Memref.isWhole_whole _)
            (Memref.whole cc1_scratch1) (Memref.isWhole_whole _) (Memref.whole cc1_scratch2) (Memref.isWhole_whole _) cc1_scratch3 cc1_scratch4 cc1_scratch5)
          fun _ => iprop(lenAt d h fL ∗ resAt d h fR ∗ rinvAt d h (packed fL) ∗ finAt d h (gathered fL fR)
            ∗ (∃ f, scr0 (F := F) d h f) ∗ (∃ f, scr1 (F := F) d h f) ∗ (∃ f, scr2 (F := F) d h f)
            ∗ semVal (S0 d h, SemLoc.dma cc1_scratch3.sem) 0 ∗ semVal (S0 d h, SemLoc.dma cc1_scratch4.sem) 0 ∗ semVal (S0 d h, SemLoc.dma cc1_scratch5.sem) 0
            ∗ ∃ W', ⌜∀ p ∈ W', p ∈ W ∨ p.2 = none⌝ ∗ owes (S0 d h) O W') := by
  rw [cc1__sc_fin_kernel_eq_skeleton]
  unfold cc1__sc_fin_kernel_skel
  iintro ⟨#Hmw, HL, HR, H3, H4, Hs0, Hs1, Hs2, Hc3, Hc4, Hc5, HO⟩
  sl_exec
  have hg : ∀ i, (View.write (Elt F) (Memref.whole cc1_scratch0).view g0 (sc_run.sl.dma0 fL) Finset.univ : Vec F S16 .i32) (ix1 i) = words fL i := by
    intro i
    refine (View.write_emb_of_mem (v := (Memref.whole cc1_scratch0).view) g0 (sc_run.sl.dma0 fL) (Finset.mem_univ (ix1 i))).trans ?_
    unfold sc_run.sl.dma0
    exact squeezed fL i
  generalize (View.write (Elt F) (Memref.whole cc1_scratch0).view g0 (sc_run.sl.dma0 fL) Finset.univ : Vec F S16 .i32) = g5 at hg
  iapply (wp_then d h)
  isplitl [Hs0 Hs1 Hs2]
  · iapply (loop1 d h g5 (words fL) hg)
    unfold inv1
    isplitl [Hs0]; · iexact Hs0
    isplitl [Hs1]
    · iexists g1
      isplitr
      · ipureintro; exact fun i hi => absurd hi (Nat.not_lt_zero _)
      · iexact Hs1
    · iexists g2
      isplitr
      · ipureintro; exact fun i hi => absurd hi (Nat.not_lt_zero _)
      · iexact Hs2
  unfold inv1
  iintro %_ ⟨Hs0, ⟨%f6, %h6, Hs1⟩, ⟨%f7, %h7, Hs2⟩⟩
  have hf6 : ∀ j, f6 (ix1 j) = BitVec.ofNat 32 (order (words fL) j).val := fun j => by
    have := h6 (order (words fL) j) (order (words fL) j).isLt
    rwa [place_order] at this
  have hf7 : ∀ i, f7 (ix1 i) = BitVec.ofNat 32 (rank (words fL) i) := fun i => h7 i i.isLt
  iapply (wp_then d h)
  isplitl [Hs0]
  · iapply (loop3 d h g5 (words fL) hg)
    iexact Hs0
  unfold inv3
  iintro %w ⟨%hw, Hs0⟩
  subst hw
  iapply (wp_then d h)
  isplitl [Hs2]
  · iapply (loop4 d h (words fL) _ f7 hf7)
    iexact Hs2
  unfold inv4
  iintro %_ ⟨%f8, %h8, Hs2⟩
  have e8 : f8 = packed fL := by
    funext y
    have ey : y = ix1 (n := 16) (y 0) := eq_ix1 y
    refine (congrArg f8 ey).trans ((h8 (y 0)).trans ?_)
    exact if_pos (y 0).isLt
  subst e8
  sl_exec
  have h3 : (View.write (Elt F) (Memref.whole main_v1_0_scs).view f3 (sc_run.sl.dma0_1 fL) Finset.univ : Vec F S16 .i32) = packed fL := by
    funext y
    exact View.write_emb_of_mem (v := (Memref.whole main_v1_0_scs).view) f3 (sc_run.sl.dma0_1 fL) (Finset.mem_univ y)
  ihave H3 := (Entails.of_eq (congrArg (fun f => ((Memref.whole main_v1_0_scs).view.loc (S0 d h) ↦{fullShare} f : sProp 𝕄)) h3)) $$ H3
  iapply (fupd_wp frame (wpE (defs₀ (F := F)) 𝒱₀ (S0 d h) none) Set.univ _ _)
  imod (Transfers.batch_alloc' (EC (F := F)) (S0 d h) (sm := .dma cc1_scratch5.sem) default rowUnits (deliv (F := F) d h fL fR) (E := Set.univ)) $$ Hc5 with HB
  imodintro
  ihave H4 := (Entails.of_eq (fin_rows d h f4)) $$ H4
  ihave HR := (Ring.fam_split (srcSet (words fL)) (srcSet_disjoint (words fL)) fR) $$ HR
  icases HR with ⟨HR, HRr⟩
  iapply (wp_then d h)
  isplitl [Hs0 Hs1 H4 HR HB]
  · iapply (loop5 d h fL fR f4 g5 f6 hL hg hf6)
    unfold inv5
    isplitl [Hs0]; · iexact Hs0
    isplitl [Hs1]; · iexact Hs1
    isplitl [H4]; · rw [Transfers.pending_zero]; iexact H4
    isplitl [HR]; · rw [Transfers.pending_zero]; iexact HR
    iexact HB
  unfold inv5
  iintro %_ ⟨Hs0, Hs1, -, -, HB⟩
  iapply (wp_then d h)
  isplitl [HB HO]
  · iapply (loop6 d h fL fR O W)
    unfold inv6
    isplitr; · iexact Hmw
    isplitl [HB]; · rw [Nat.zero_mul]; iexact HB
    iexists _
    isplitr [HO]
    swap
    · iexact HO
    · ipureintro
      intro p hp
      rcases Finset.mem_insert.mp hp with e | e
      · exact .inr (by rw [e]; rfl)
      rcases Finset.mem_insert.mp e with e | e
      · exact .inr (by rw [e]; rfl)
      · exact .inl e
  unfold inv6
  iintro %_ ⟨-, HB, ⟨%W', %hW', HO⟩⟩
  rw [show 16 * rowUnits = rowUnits * 16 from Nat.mul_comm _ _]
  iapply (fupd_wp frame (wpE (defs₀ (F := F)) 𝒱₀ (S0 d h) none) Set.univ _ _)
  imod (Transfers.batch_collect' (EC (F := F)) (S0 d h) rowUnits_pos) $$ HB with ⟨HD, Hc5⟩
  imodintro
  ihave HD := (Entails.of_eq (deliv_halves d h fL fR)) $$ HD
  icases HD with ⟨H4, HR⟩
  sl_step
  isplitl [HL]; · iexact HL
  isplitl [HR HRr]
  · iapply (fam_join d h (words fL) fR)
    isplitl [HR]
    · iexact HR
    · iexact HRr
  isplitl [H3]; · iexact H3
  isplitl [H4]; · iapply (Entails.of_eq (fin_rows d h (gathered fL fR)).symm); iexact H4
  isplitl [Hs0]; · iexists g5; iexact Hs0
  isplitl [Hs1]; · iexists f6; iexact Hs1
  isplitl [Hs2]; · iexists _; iexact Hs2
  isplitl [Hc3]; · iexact Hc3
  isplitl [Hc4]; · iexact Hc4
  isplitl [Hc5]; · iexact Hc5
  iexists W'
  isplitr [HO]
  · ipureintro; exact hW'
  · iexact HO

end Cert.Proof.Ker

end
-- ==== Proof.ScObl.lean ====
/- What the SparseCore call takes and gives back, and the launch theorem's obligation for its sequencer. -/
module

public import proofs.«01_k».proof.Proof.ScRun

@[expose] public section

noncomputable section

namespace Cert.Proof.Ker

open Cert.KernelIdeal Cert.KernelIdeal.Gen

open Idealize.ShloMosaic Idealize.ShloMosaic.ValueIdx
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Rank

variable {F : FTy → Type} [FloatOps F]

local notation "𝕄" => MT nD τ sig (HIx 1) (Elt F) ℕ UU ℕ

/-- What the call is handed: the lengths and the restored array at known contents, the two results at any. -/
def given (fL : Vec F S1x16 .i32) (fR : Vec F S16x4096x128 .f32) (d : Dev nD) : sProp 𝕄 :=
  iprop((lenLoc d ↦{fullShare} fL) ∗ (resLoc d ↦{fullShare} fR) ∗ (∃ f, rinvLoc d ↦{fullShare} f) ∗ ∃ f, finLoc d ↦{fullShare} f)

/-- What it hands back: the packed words and the gathered rows written. -/
def returned (fL : Vec F S1x16 .i32) (fR : Vec F S16x4096x128 .f32) (d : Dev nD) : sProp 𝕄 :=
  iprop((lenLoc d ↦{fullShare} fL) ∗ (resLoc d ↦{fullShare} fR) ∗ (rinvLoc d ↦{fullShare} (packed fL : Vec F S16 .i32))
    ∗ finLoc d ↦{fullShare} (gathered fL fR : Vec F S16x128 .f32))

instance (fL : Vec F S1x16 .i32) (fR : Vec F S16x4096x128 .f32) (d : Dev nD) : Storable (upEmb : UEmb _ 𝕄) (given fL fR d) := by
  unfold given; infer_instance

instance (fL : Vec F S1x16 .i32) (fR : Vec F S16x4096x128 .f32) (d : Dev nD) : Storable (upEmb : UEmb _ 𝕄) (returned fL fR d) := by
  unfold returned; infer_instance

variable (LEN : Dev nD → Vec F S1x16 .i32) (RES : Dev nD → Vec F S16x4096x128 .f32)

/-- The call's payloads, by device: `given` out, `returned` back. -/
def P : (K (F := F)).Pay (nD := nD) (Val := Elt F) (Name := ℕ) (U := UU) where
  st := fun _ d _ => given (LEN d) (RES d) d
  dn := fun _ d _ => returned (LEN d) (RES d) d
  go := fun _ _ _ _ => iprop(emp)
  td := fun _ _ _ _ => iprop(emp)
  x := fun _ _ => iprop(emp)

instance P_storable : (P (F := F) LEN RES).IsStorable where
  st _ d c := by unfold P; infer_instance
  dn _ d c := by unfold P; infer_instance
  go _ _ _ _ := by unfold P; infer_instance
  td _ _ _ _ := by unfold P; infer_instance

variable (d : Dev nD)

omit [FloatOps F] in
/-- The sequencer's own cells are its three copy cells and the rest. -/
theorem ownSems_open (c : Fin τ.nSC) :
    (ownSems0 (S d c) : sProp 𝕄) = iprop(semVal (S d c, SemLoc.dma cc1_scratch3.sem) 0 ∗ semVal (S d c, SemLoc.dma cc1_scratch4.sem) 0
      ∗ semVal (S d c, SemLoc.dma cc1_scratch5.sem) 0
      ∗ bigSep ((((ownCells (S d c)).erase (S d c, SemLoc.dma cc1_scratch3.sem)).erase (S d c, SemLoc.dma cc1_scratch4.sem)).erase (S d c, SemLoc.dma cc1_scratch5.sem))
          fun g => semVal g 0) := by
  have hm : ∀ s : DmaSem sig, ((S d c, SemLoc.dma s) : GSem nD τ sig) ∈ ownCells (S d c) := fun s =>
    mem_ownCells.mpr ⟨rfl, (show ∀ s : DmaSem sig, (SemLoc.dma s : SemLoc sig).isScoped .scScalar = true by decide) s⟩
  have hne : ∀ s s' : DmaSem sig, s ≠ s' → ((S d c, SemLoc.dma s) : GSem nD τ sig) ≠ (S d c, SemLoc.dma s') := fun s s' h e =>
    h (SemLoc.dma.inj (congrArg Prod.snd e))
  unfold SparseCore.Cfg.ownSems0
  rw [SparseCore.bigSep_erase' (hm cc1_scratch3.sem),
    SparseCore.bigSep_erase' (Finset.mem_erase.mpr ⟨hne cc1_scratch4.sem cc1_scratch3.sem (by decide), hm cc1_scratch4.sem⟩),
    SparseCore.bigSep_erase' (Finset.mem_erase.mpr ⟨hne cc1_scratch5.sem cc1_scratch4.sem (by decide),
      Finset.mem_erase.mpr ⟨hne cc1_scratch5.sem cc1_scratch3.sem (by decide), hm cc1_scratch5.sem⟩⟩)]

omit [FloatOps F] in
/-- The sequencer's own buffers are its three scratch buffers, at some contents, and the rest. -/
theorem ownBufs_open (c : Fin τ.nSC) :
    (ownBufs (S d c) : sProp 𝕄) = iprop((∃ f, ((d, (Proc.scScalar c).devRef cc1_scratch0) : Loc nD τ sig) ↦{fullShare} f)
      ∗ (∃ f, ((d, (Proc.scScalar c).devRef cc1_scratch1) : Loc nD τ sig) ↦{fullShare} f)
      ∗ (∃ f, ((d, (Proc.scScalar c).devRef cc1_scratch2) : Loc nD τ sig) ↦{fullShare} f)
      ∗ bigSep ((((ownRefs (τ := τ) (.scScalar c)).erase ((Proc.scScalar c).devRef cc1_scratch0)).erase ((Proc.scScalar c).devRef cc1_scratch1)).erase
          ((Proc.scScalar c).devRef cc1_scratch2)) fun b => iprop(∃ f, ((d, b) : Loc nD τ sig) ↦{fullShare} f)) := by
  have m0 := (mem_ownRefs (p := Proc.scScalar c) (b := (Proc.scScalar c).devRef cc1_scratch0)).mpr rfl
  have m1 := (mem_ownRefs (p := Proc.scScalar c) (b := (Proc.scScalar c).devRef cc1_scratch1)).mpr rfl
  have m2 := (mem_ownRefs (p := Proc.scScalar c) (b := (Proc.scScalar c).devRef cc1_scratch2)).mpr rfl
  have n10 : (Proc.scScalar c).devRef cc1_scratch1 ≠ (Proc.scScalar c).devRef cc1_scratch0 := by revert c; decide
  have n20 : (Proc.scScalar c).devRef cc1_scratch2 ≠ (Proc.scScalar c).devRef cc1_scratch0 := by revert c; decide
  have n21 : (Proc.scScalar c).devRef cc1_scratch2 ≠ (Proc.scScalar c).devRef cc1_scratch1 := by revert c; decide
  unfold SparseCore.Cfg.ownBufs
  rw [SparseCore.bigSep_erase' m0, SparseCore.bigSep_erase' (Finset.mem_erase.mpr ⟨n10, m1⟩),
    SparseCore.bigSep_erase' (Finset.mem_erase.mpr ⟨n21, Finset.mem_erase.mpr ⟨n20, m2⟩⟩)]

/-- The kernel on its sequencer, over the storage the launch hands it. -/
theorem seq_run (fL : Vec F S1x16 .i32) (fR : Vec F S16x4096x128 .f32) (hL : ∀ i, (words fL i).toNat ≤ 4096) (h : 0 < grid1.bound 0)
    (O : CellTallies nD τ sig (HIx 1)) (W : Waits sig (HIx 1)) (hO : ∀ g, O g none = 0) :
    iprop(levAts (K (F := F)).L (K (F := F)).lev ∗ emp ∗ given fL fR d ∗ scopedBufs (S0 d h) ∗ scopedSems0 (S0 d h) ∗ owes (S0 d h) O W)
      ⊢ wp frame (wpE (defs₀ (F := F)) 𝒱₀ (S0 d h) none) Set.univ
          (cc1__sc_fin_kernel (F := F) (coordsS ⟨0, h⟩) (Memref.whole main_v0_1_scs) (Memref.isWhole_whole _) (Memref.whole main_v0_0_scs) (Memref.isWhole_whole _)
            (Memref.whole main_v1_0_scs) (Memref.isWhole_whole _) (Memref.whole main_v1_1_scs) (Memref.isWhole_whole _) (Memref.whole cc1_scratch0) (Memref.isWhole_whole _)
            (Memref.whole cc1_scratch1) (Memref.isWhole_whole _) (Memref.whole cc1_scratch2) (Memref.isWhole_whole _) cc1_scratch3 cc1_scratch4 cc1_scratch5)
          fun _ => iprop(returned fL fR d ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S facts d _, SparseCore.Cfg.scopedSems0_S (Val := Elt F) d _, ownSems_open, ownBufs_open]
  unfold given returned
  iintro ⟨#Hlv, -, ⟨HL, HR, ⟨%f3, H3⟩, ⟨%f4, H4⟩⟩, ⟨⟨⟨%g0, Hs0⟩, ⟨%g1, Hs1⟩, ⟨%g2, Hs2⟩, Hbr⟩, Hbt⟩, ⟨⟨Hc3, Hc4, Hc5, Hsr⟩, Hst⟩, HO⟩
  ihave #Hmw := ((K (F := F)).mayWaits_none (thr := S0 d h) hO) $$ Hlv
  iapply (wp_wand_r Idealize.ShloMosaic.frame (wpE (defs₀ (F := F)) 𝒱₀ (S0 d h) none) Set.univ)
  isplitl [HL HR H3 H4 Hs0 Hs1 Hs2 Hc3 Hc4 Hc5 HO]
  · iapply (sc_run d h O W fL fR f3 f4 g0 g1 g2 hL)
    isplitr; · iexact Hmw
    isplitl [HL]; · iexact HL
    isplitl [HR]; · iexact HR
    isplitl [H3]; · iexact H3
    isplitl [H4]; · iexact H4
    isplitl [Hs0]; · iexact Hs0
    isplitl [Hs1]; · iexact Hs1
    isplitl [Hs2]; · iexact Hs2
    isplitl [Hc3]; · iexact Hc3
    isplitl [Hc4]; · iexact Hc4
    isplitl [Hc5]; · iexact Hc5
    iexact HO
  iintro %_ ⟨HL, HR, H3, H4, ⟨%k0, Hs0⟩, ⟨%k1, Hs1⟩, ⟨%k2, Hs2⟩, Hc3, Hc4, Hc5, ⟨%W', %hW', HO⟩⟩
  isplitl [HL HR H3 H4]
  · isplitl [HL]; · iexact HL
    isplitl [HR]; · iexact HR
    isplitl [H3]; · iexact H3
    iexact H4
  isplitl [Hs0 Hs1 Hs2 Hbr Hbt]
  · isplitl [Hs0 Hs1 Hs2 Hbr]
    · isplitl [Hs0]; · iexists k0; iexact Hs0
      isplitl [Hs1]; · iexists k1; iexact Hs1
      isplitl [Hs2]; · iexists k2; iexact Hs2
      iexact Hbr
    · iexact Hbt
  isplitl [Hc3 Hc4 Hc5 Hsr Hst]
  · isplitl [Hc3 Hc4 Hc5 Hsr]
    · isplitl [Hc3]; · iexact Hc3
      isplitl [Hc4]; · iexact Hc4
      isplitl [Hc5]; · iexact Hc5
      iexact Hsr
    · iexact Hst
  iexists W'
  isplitr
  · ipureintro; exact fun p hp => (hW' p hp).imp_right Or.inl
  · iexact HO

theorem defs₀_seq (c : Fin τ.nSC) :
    defs₀ (F := F) (.scScalar c) 1 ()
      = SparseCore.onCore hcore1 (fun c => cc1__sc_fin_kernel (F := F) (coordsS c) (Memref.whole main_v0_1_scs) (Memref.isWhole_whole _) (Memref.whole main_v0_0_scs) (Memref.isWhole_whole _)
            (Memref.whole main_v1_0_scs) (Memref.isWhole_whole _) (Memref.whole main_v1_1_scs) (Memref.isWhole_whole _) (Memref.whole cc1_scratch0) (Memref.isWhole_whole _)
            (Memref.whole cc1_scratch1) (Memref.isWhole_whole _) (Memref.whole cc1_scratch2) (Memref.isWhole_whole _) cc1_scratch3 cc1_scratch4 cc1_scratch5) ⟨⟩ c := rfl

/-- The launch theorem's obligation for the call's sequencer. -/
theorem scalarObl (hL : ∀ d i, (words (LEN d) i).toNat ≤ 4096) : (K (F := F)).ScalarObl (D (F := F)) 𝒱 (P LEN RES) v₀ 0 := by
  intro d c O W hO _ _
  simp only [show (P LEN RES).ox = fun _ _ => 0 from rfl, add_zero]
  change _ ⊢ wp _ _ _ (Pipeline.liftProg (defs₀ (F := F) (.scScalar ((K (F := F)).core 0 c)) 1 ())) _
  refine BI.Entails.trans ?_ (Pipeline.wp_liftProg (D (F := F)) (Pipeline.defs_kernel pcfgs defs₀) 𝒱₀ _ Set.univ none _ _)
  have hc : ((K (F := F)).core 0 c).val < grid1.bound 0 := c.isLt
  rw [defs₀_seq]; simp only [SparseCore.onCore, hc, ↓reduceDIte]
  match c with
  | ⟨0, h⟩ => exact seq_run d (LEN d) (RES d) (hL d) h O W hO

end Cert.Proof.Ker

end
-- ==== Proof.Launch.lean ====
/- The whole program: the TensorCore kernel, the SparseCore call, then the operations that unpack its words. -/
module

public import proofs.«01_k».proof.Proof.MmRegion
public import proofs.«01_k».proof.Proof.ScObl

@[expose] public section

set_option maxRecDepth 16384

noncomputable section

namespace Cert.Proof.Ker

open Cert.KernelIdeal Cert.KernelIdeal.Gen

open Idealize.ShloMosaic Idealize.ShloMosaic.TcCoe Idealize.ShloMosaic.Tactic
open Idealize.ShloMosaic.SparseCore.Cfg (HIx)
open Idealize.ShloMosaic.StableHlo (held)
open Idealize.ShloMosaic.Pipeline (Dat BodyObligation RegionSeg)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (m : (ℓ : Loc nD τ sig) → Buf (Elt F) ℓ) (ρ : Dev nD → PrngReg)

/-- The lengths and the transformed rows, as the TensorCore kernel leaves them. -/
def LEN (d : Dev nD) : Vec F S1x16 .i32 := (data m 0 d).arrAt 4 cfg0.N
def RES (d : Dev nD) : Vec F S16x4096x128 .f32 := (data m 0 d).arrAt 3 cfg0.N

/-! ## The operations after the call -/

abbrev cRef (b : Ref sig .tc) : DevRef τ sig := Proc.devRef .tc b

/-- The buffers they touch. -/
abbrev touched : Finset (DevRef τ sig) :=
  {cRef main_v1_0, cRef main_v1_1, cRef main_c, cRef main_v2, cRef main_v3, cRef main_v4, cRef main_v5, cRef main_c_0, cRef main_v6, cRef main_v7}

/-- The operations: the order from the words' upper halves, the count from the first word's lower half, the rows with a
    leading axis. -/
abbrev unpack : List (HloOp τ sig (Elt F)) := [
  StableHlo.nullary main_c (constantI S_ 32 16#32),
  StableHlo.unary main_c main_v2 (broadcastInDim S16 ![] bcast_S_S16 : (⟨S_, .i32⟩ : BufTy).Contents (Elt F) → (⟨S16, .i32⟩ : BufTy).Contents (Elt F)),
  StableHlo.binary main_v1_0 main_v2 main_v3 (Host.shrui : (⟨S16, .i32⟩ : BufTy).Contents (Elt F) → (⟨S16, .i32⟩ : BufTy).Contents (Elt F) → (⟨S16, .i32⟩ : BufTy).Contents (Elt F)),
  StableHlo.unary main_v1_0 main_v4 ((extractStridedSlice S1 ![0] · slices_S16_S1_0) : (⟨S16, .i32⟩ : BufTy).Contents (Elt F) → (⟨S1, .i32⟩ : BufTy).Contents (Elt F)),
  StableHlo.reshape main_v4 main_v5 (rfl : (.i32 : EltTy) = .i32) shapeCasts_S1_S_,
  StableHlo.nullary main_c_0 (constantI S_ 32 65535#32),
  StableHlo.binary main_v5 main_c_0 main_v6 (andi : (⟨S_, .i32⟩ : BufTy).Contents (Elt F) → (⟨S_, .i32⟩ : BufTy).Contents (Elt F) → (⟨S_, .i32⟩ : BufTy).Contents (Elt F)),
  StableHlo.unary main_v1_1 main_v7 (broadcastInDim S1x16x128 ![1, 2] bcast_S16x128_S1x16x128_1_2 : (⟨S16x128, .f32⟩ : BufTy).Contents (Elt F) → (⟨S1x16x128, .f32⟩ : BufTy).Contents (Elt F))]

theorem main_eq (d : Dev nD) : main (F := F) d
    = (Prog.lift (.customCall (SparseCore.inner (Pipeline.entry 0)) ()) >>= fun _ => (K (F := F)).run d 0 >>= fun _ => StableHlo.seq unpack) := by
  rfl

/-- The contents the operations start from: the call's two results, everything else as launched. -/
def before (d : Dev nD) (fW : Vec F S16 .i32) (fG : Vec F S16x128 .f32) : Valuation τ sig (Elt F) :=
  Function.update (Function.update (fun b => m (d, b)) (cRef main_v1_0) fW) (cRef main_v1_1) fG

theorem held_touched (d : Dev nD) (W : Valuation τ sig (Elt F)) :
    (held (SparseCore.T d) touched W : sProp 𝕄) = iprop((rinvLoc d ↦{fullShare} W (cRef main_v1_0)) ∗ (finLoc d ↦{fullShare} W (cRef main_v1_1))
      ∗ ((SparseCore.T d).loc main_c ↦{fullShare} W (cRef main_c)) ∗ ((SparseCore.T d).loc main_v2 ↦{fullShare} W (cRef main_v2))
      ∗ ((SparseCore.T d).loc main_v3 ↦{fullShare} W (cRef main_v3)) ∗ ((SparseCore.T d).loc main_v4 ↦{fullShare} W (cRef main_v4))
      ∗ ((SparseCore.T d).loc main_v5 ↦{fullShare} W (cRef main_v5)) ∗ ((SparseCore.T d).loc main_c_0 ↦{fullShare} W (cRef main_c_0))
      ∗ ((SparseCore.T d).loc main_v6 ↦{fullShare} W (cRef main_v6)) ∗ (SparseCore.T d).loc main_v7 ↦{fullShare} W (cRef main_v7)) := by
  unfold held touched
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The words' upper halves. -/
def upper (fW : Vec F S16 .i32) : Vec F S16 .i32 :=
  Host.shrui fW (broadcastInDim S16 ![] bcast_S_S16 (constantI S_ 32 16#32 : (⟨S_, .i32⟩ : BufTy).Contents (Elt F)))
/-- The first word's lower half. -/
def lower (fW : Vec F S16 .i32) : Vec F S_ .i32 :=
  andi (shapeCast S_ (extractStridedSlice S1 ![0] fW slices_S16_S1_0) shapeCasts_S1_S_) (constantI S_ 32 65535#32 : (⟨S_, .i32⟩ : BufTy).Contents (Elt F))
/-- The rows under a leading axis. -/
def lifted (fG : Vec F S16x128 .f32) : Vec F S1x16x128 .f32 := broadcastInDim S1x16x128 ![1, 2] bcast_S16x128_S1x16x128_1_2 fG

variable (d : Dev nD) (fW : Vec F S16 .i32) (fG : Vec F S16x128 .f32)

theorem after_v3 : StableHlo.after (unpack (F := F)) (before m d fW fG) (cRef main_v3) = upper fW := by
  rfl
theorem after_v6 : StableHlo.after (unpack (F := F)) (before m d fW fG) (cRef main_v6) = lower fW := by
  rfl
theorem after_v7 : StableHlo.after (unpack (F := F)) (before m d fW fG) (cRef main_v7) = lifted fG := by
  rfl

end Cert.Proof.Ker

end
-- ==== Proof.Run.lean ====
/- The whole program's run: @main from the buffers as launched to the arguments unchanged and the four results. -/
module

public import proofs.«01_k».proof.Proof.Launch

@[expose] public section

set_option maxRecDepth 16384

noncomputable section

namespace Cert.Proof.Ker

open Cert.KernelIdeal Cert.KernelIdeal.Gen

open Idealize.ShloMosaic Idealize.ShloMosaic.TcCoe Idealize.ShloMosaic.Tactic
open Idealize.ShloMosaic.SparseCore.Cfg (HIx)
open Idealize.ShloMosaic.StableHlo (held)
open Idealize.ShloMosaic.Pipeline (Dat BodyObligation RegionSeg)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg) (d : Dev nD)

theorem tc_then {α β : Type} (thr : Thread nD τ) (p : Prog (TpuEff nD τ sig (Elt F) (SparseCore.Sig (ΛP (F := F)) 1) thr.2) α)
    (k : α → Prog (TpuEff nD τ sig (Elt F) (SparseCore.Sig (ΛP (F := F)) 1) thr.2) β) (Q : β → sProp 𝕄) :
    wp frame (wpE ((K (F := F)).defs (D (F := F))) 𝒱 thr none) Set.univ p
        (fun a => wp frame (wpE ((K (F := F)).defs (D (F := F))) 𝒱 thr none) Set.univ (k a) Q)
      ⊢ wp frame (wpE ((K (F := F)).defs (D (F := F))) 𝒱 thr none) Set.univ (p >>= k) Q := by
  exact Entails.of_eq (wp_bind frame (wpE ((K (F := F)).defs (D (F := F))) 𝒱 thr none) Set.univ p k Q).symm

/-- The pipeline's arrays, one by one: its three inputs and its two outputs. -/
theorem arrays_open (G : (w : Fin cfg0.W) → Buf (Elt F) ((cfg0.win w).arr.view.loc (d : Thread nD τ))) :
    ((data m 0 d).arrays G : sProp 𝕄)
      = iprop((xLoc d ↦{fullShare} G 0) ∗ (maskLoc d ↦{fullShare} G 1) ∗ (wLoc d ↦{fullShare} G 2) ∗ (resLoc d ↦{fullShare} G 3)
          ∗ lenLoc d ↦{fullShare} G 4) := by
  rw [Pipeline.arrays_eq cfgs (data m) 0 d arr_whole0 (fun w => by unfold Dat.share; dsimp only [data]; split <;> rfl) G, bigSep_W0]

theorem buffers_open :
    (unscopedBufs d (fun b => m ((SparseCore.T d).loc b)) : sProp 𝕄)
      = iprop((data m 0 d).arrays ((data m 0 d).arrAt · 0) ∗ held (SparseCore.T d) touched (fun b => m (d, b))) := by
  rw [Pipeline.unscopedBufs_split cfgs 0 winFacts0.arr_unscoped winFacts0.arr_inj d, bigSep_W0, unscopedRest0_eq, arrays_open, held_touched]
  rfl

/-- What the pipeline's ghost state deals to device `d`. -/
abbrev G (d : Dev nD) : sProp 𝕄 := iprop(Pipeline.cellsGhost cfgs (EP (F := F)) 0 d ∗ Pipeline.toksInit cfgs (EP (F := F)) 0 d)

/-- What @main leaves: the arguments as launched and the four results. -/
def FIN (d : Dev nD) : sProp 𝕄 :=
  iprop((xLoc d ↦{fullShare} m (xLoc d)) ∗ (maskLoc d ↦{fullShare} m (maskLoc d)) ∗ (wLoc d ↦{fullShare} m (wLoc d))
    ∗ (resLoc d ↦{fullShare} RES m d) ∗ ((SparseCore.T d).loc main_v3 ↦{fullShare} upper (packed (LEN m d)))
    ∗ ((SparseCore.T d).loc main_v6 ↦{fullShare} lower (packed (LEN m d)))
    ∗ (SparseCore.T d).loc main_v7 ↦{fullShare} lifted (gathered (LEN m d) (RES m d)))

theorem given_all : (bigSep Finset.univ fun c : Fin ((K (F := F)).nCore 0) => (P (F := F) (LEN m) (RES m)).st 0 d c) = given (LEN m d) (RES m d) d := by
  show (bigSep (Finset.univ : Finset (Fin 1)) fun _ => given (LEN m d) (RES m d) d) = _
  rw [show (Finset.univ : Finset (Fin 1)) = {0} by decide, bigSep_singleton]
theorem returned_all : (bigSep Finset.univ fun c : Fin ((K (F := F)).nCore 0) => (P (F := F) (LEN m) (RES m)).dn 0 d c) = returned (LEN m d) (RES m d) d := by
  show (bigSep (Finset.univ : Finset (Fin 1)) fun _ => returned (LEN m d) (RES m d) d) = _
  rw [show (Finset.univ : Finset (Fin 1)) = {0} by decide, bigSep_singleton]

theorem arrAt_x : (data m 0 d).arrAt 0 cfg0.N = m (xLoc d) := ((data m 0 d).arrAt_in 0 rfl _).trans (data_A m d 0)
theorem arrAt_mask : (data m 0 d).arrAt 1 cfg0.N = m (maskLoc d) := ((data m 0 d).arrAt_in 1 rfl _).trans (data_A m d 1)
theorem arrAt_w : (data m 0 d).arrAt 2 cfg0.N = m (wLoc d) := ((data m 0 d).arrAt_in 2 rfl _).trans (data_A m d 2)

/-- The buffers the operations after the call read or write, but the call's two results. -/
def others (W : Valuation τ sig (Elt F)) : sProp 𝕄 :=
  iprop(((SparseCore.T d).loc main_c ↦{fullShare} W (cRef main_c)) ∗ ((SparseCore.T d).loc main_v2 ↦{fullShare} W (cRef main_v2))
    ∗ ((SparseCore.T d).loc main_v3 ↦{fullShare} W (cRef main_v3)) ∗ ((SparseCore.T d).loc main_v4 ↦{fullShare} W (cRef main_v4))
    ∗ ((SparseCore.T d).loc main_v5 ↦{fullShare} W (cRef main_v5)) ∗ ((SparseCore.T d).loc main_c_0 ↦{fullShare} W (cRef main_c_0))
    ∗ ((SparseCore.T d).loc main_v6 ↦{fullShare} W (cRef main_v6)) ∗ (SparseCore.T d).loc main_v7 ↦{fullShare} W (cRef main_v7))

theorem held_others (W : Valuation τ sig (Elt F)) :
    (held (SparseCore.T d) touched W : sProp 𝕄)
      = iprop((rinvLoc d ↦{fullShare} W (cRef main_v1_0)) ∗ (finLoc d ↦{fullShare} W (cRef main_v1_1)) ∗ others d W) := by
  rw [held_touched]; rfl

theorem before_other (fW : Vec F S16 .i32) (fG : Vec F S16x128 .f32) {b : DevRef τ sig} (h0 : b ≠ cRef main_v1_0) (h1 : b ≠ cRef main_v1_1) :
    before m d fW fG b = m (d, b) := by
  unfold before
  rw [Function.update_of_ne h1, Function.update_of_ne h0]
theorem before_rinv (fW : Vec F S16 .i32) (fG : Vec F S16x128 .f32) : before m d fW fG (cRef main_v1_0) = fW := by
  unfold before
  rw [Function.update_of_ne (by decide), Function.update_self]
theorem before_fin (fW : Vec F S16 .i32) (fG : Vec F S16x128 .f32) : before m d fW fG (cRef main_v1_1) = fG := by
  unfold before
  rw [Function.update_self]

theorem held_before (fW : Vec F S16 .i32) (fG : Vec F S16x128 .f32) :
    (held (SparseCore.T d) touched (before m d fW fG) : sProp 𝕄)
      = iprop((rinvLoc d ↦{fullShare} fW) ∗ (finLoc d ↦{fullShare} fG) ∗ others d fun b => m (d, b)) := by
  rw [held_others, before_rinv, before_fin]
  unfold others
  rw [before_other m d fW fG (b := cRef main_c) (by decide) (by decide), before_other m d fW fG (b := cRef main_v2) (by decide) (by decide),
    before_other m d fW fG (b := cRef main_v3) (by decide) (by decide), before_other m d fW fG (b := cRef main_v4) (by decide) (by decide),
    before_other m d fW fG (b := cRef main_v5) (by decide) (by decide), before_other m d fW fG (b := cRef main_c_0) (by decide) (by decide),
    before_other m d fW fG (b := cRef main_v6) (by decide) (by decide), before_other m d fW fG (b := cRef main_v7) (by decide) (by decide)]

theorem pre_eq : ((region m).pre d : sProp 𝕄) = iprop((data m 0 d).arrays ((data m 0 d).arrAt · 0)
    ∗ ∃ W, ⌜(K (F := F)).WBelow (d : Thread nD τ) W 0⌝ ∗ owes (d : Thread nD τ) ((K (F := F)).Otc d 0) W) := rfl
theorem post_eq : ((region m).post d : sProp 𝕄) = iprop((data m 0 d).arrays ((data m 0 d).arrAt · cfg0.N)
    ∗ ∃ W, ⌜(K (F := F)).WBelow (d : Thread nD τ) W 0⌝ ∗ owes (d : Thread nD τ) ((K (F := F)).Otc d 0) W) := rfl

theorem in_main_v1_0 : cRef main_v1_0 ∈ touched := Finset.mem_insert_self _ _
theorem in_main_v1_1 : cRef main_v1_1 ∈ touched := Finset.mem_insert_of_mem (Finset.mem_insert_self _ _)
theorem in_main_c : cRef main_c ∈ touched := Finset.mem_insert_of_mem (Finset.mem_insert_of_mem (Finset.mem_insert_self _ _))
theorem in_main_v2 : cRef main_v2 ∈ touched := Finset.mem_insert_of_mem (Finset.mem_insert_of_mem (Finset.mem_insert_of_mem (Finset.mem_insert_self _ _)))
theorem in_main_v3 : cRef main_v3 ∈ touched := Finset.mem_insert_of_mem (Finset.mem_insert_of_mem (Finset.mem_insert_of_mem (Finset.mem_insert_of_mem (Finset.mem_insert_self _ _))))
theorem in_main_v4 : cRef main_v4 ∈ touched := Finset.mem_insert_of_mem (Finset.mem_insert_of_mem (Finset.mem_insert_of_mem (Finset.mem_insert_of_mem (Finset.mem_insert_of_mem (Finset.mem_insert_self _ _)))))
theorem in_main_v5 : cRef main_v5 ∈ touched := Finset.mem_insert_of_mem (Finset.mem_insert_of_mem (Finset.mem_insert_of_mem (Finset.mem_insert_of_mem (Finset.mem_insert_of_mem (Finset.mem_insert_of_mem (Finset.mem_insert_self _ _))))))
theorem in_main_c_0 : cRef main_c_0 ∈ touched := Finset.mem_insert_of_mem (Finset.mem_insert_of_mem (Finset.mem_insert_of_mem (Finset.mem_insert_of_mem (Finset.mem_insert_of_mem (Finset.mem_insert_of_mem (Finset.mem_insert_of_mem (Finset.mem_insert_self _ _)))))))
theorem in_main_v6 : cRef main_v6 ∈ touched := Finset.mem_insert_of_mem (Finset.mem_insert_of_mem (Finset.mem_insert_of_mem (Finset.mem_insert_of_mem (Finset.mem_insert_of_mem (Finset.mem_insert_of_mem (Finset.mem_insert_of_mem (Finset.mem_insert_of_mem (Finset.mem_insert_self _ _))))))))
theorem in_main_v7 : cRef main_v7 ∈ touched := Finset.mem_insert_of_mem (Finset.mem_insert_of_mem (Finset.mem_insert_of_mem (Finset.mem_insert_of_mem (Finset.mem_insert_of_mem (Finset.mem_insert_of_mem (Finset.mem_insert_of_mem (Finset.mem_insert_of_mem (Finset.mem_insert_of_mem (Finset.mem_singleton_self _)))))))))

theorem one_within {a : DevRef τ sig} (ha : a ∈ touched) : ({a} : Finset (DevRef τ sig)) ⊆ touched := Finset.singleton_subset_iff.mpr ha
theorem two_within {a b : DevRef τ sig} (ha : a ∈ touched) (hb : b ∈ touched) : ({a, b} : Finset (DevRef τ sig)) ⊆ touched :=
  Finset.insert_subset ha (one_within hb)
theorem three_within {a b c : DevRef τ sig} (ha : a ∈ touched) (hb : b ∈ touched) (hc : c ∈ touched) :
    ({a, b, c} : Finset (DevRef τ sig)) ⊆ touched := Finset.insert_subset ha (two_within hb hc)

/-- The operations after the call stay among those buffers. -/
theorem unpack_within : ∀ op ∈ unpack (F := F), op.bufs ⊆ touched := by
  unfold unpack
  rw [List.forall_mem_cons, List.forall_mem_cons, List.forall_mem_cons, List.forall_mem_cons, List.forall_mem_cons, List.forall_mem_cons,
    List.forall_mem_cons, List.forall_mem_singleton]
  exact ⟨one_within in_main_c, two_within in_main_c in_main_v2, three_within in_main_v1_0 in_main_v2 in_main_v3,
    two_within in_main_v1_0 in_main_v4, two_within in_main_v4 in_main_v5, one_within in_main_c_0,
    three_within in_main_v5 in_main_c_0 in_main_v6, two_within in_main_v1_1 in_main_v7⟩
/-- They allocate nothing. -/
theorem unpack_fresh : ∀ op ∈ unpack (F := F), op.fresh = ∅ :=
  List.forall_iff_forall_mem.mp (StableHlo.forall_fresh_of_map rfl)

/-- The call of the kernel as @main states it is the pipeline's own call, lifted. -/
theorem call_lifted :
    (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret) := rfl

/-- The TensorCore kernel's call, entered from the core's state before the SparseCore call. -/
theorem mm_call [∀ e, Nonempty (Elt F e)] (κ : GSem nD τ sig → ℕ) (Q : PUnit → sProp 𝕄) :
    iprop((K (F := F)).ctx EH (P (LEN m) (RES m)) κ ∗ (K (F := F)).tcSt EH d 0 ∗ boundary (SparseCore.T d) ∗ (data m 0 d).arrays ((data m 0 d).arrAt · 0) ∗ G (F := F) d
        ∗ (iprop((K (F := F)).tcSt EH d 0 ∗ boundary (SparseCore.T d) ∗ (data m 0 d).arrays ((data m 0 d).arrAt · cfg0.N)) -∗ Q ⟨⟩))
      ⊢ wp frame (wpE ((K (F := F)).defs (D (F := F))) 𝒱 (SparseCore.T d) none) Set.univ
          (Prog.lift (.customCall (SparseCore.inner (Pipeline.entry 0)) ())) Q := by
  rw [call_lifted]
  refine BIBase.Entails.trans ?_ ((K (F := F)).wp_liftProg (D (F := F)) 𝒱 (SparseCore.T d) Set.univ none (.op (.customCall (Pipeline.entry 0) ()) .ret) Q)
  unfold SparseCore.Cfg.tcSt
  iintro ⟨#Hctx, ⟨HO, Hrest⟩, Hb, Ha, ⟨Hg, Ht⟩, Hk⟩
  ihave Hlev := (SparseCore.Cfg.ctx_levAts κ) $$ Hctx
  iapply ((region m).wp (pcfgs (F := F)) adm (data m) none cellOf_inj EP defs₀ 𝒱₀ (K (F := F)).L (K (F := F)).lev d none (fun _ h => nomatch h) .ret Q)
  isplitl [Hrest Hk]
  · iintro ⟨Hb, Hpost⟩
    ihave Hpost' := (Entails.of_eq (post_eq m d)) $$ Hpost
    icases Hpost' with ⟨Ha, HO⟩
    rw [wp_ret]; imodintro
    iapply Hk
    isplitl [HO Hrest]
    · isplitl [HO]; · iexact HO
      iexact Hrest
    isplitl [Hb]; · iexact Hb
    iexact Ha
  isplitl [Hb]; · iexact Hb
  isplitl [Ha HO]
  · rw [pre_eq]
    isplitl [Ha]; · iexact Ha
    iexact HO
  isplitl [Hlev]; · iexact Hlev
  isplitl [Hg]; · iexact Hg
  iexact Ht

/-- @main on device `d`'s TensorCore. -/
theorem hmain [∀ e, Nonempty (Elt F e)] (κ : GSem nD τ sig → ℕ) (d : Dev nD) :
    iprop((K (F := F)).ctx EH (P (LEN m) (RES m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [buffers_open, main_eq]
  iintro ⟨#Hctx, Hst, ⟨Hb, ⟨Ha, Hheld⟩, Hts, -⟩, HG⟩
  iapply tc_then
  iapply (mm_call m d κ _)
  isplitr; · iexact Hctx
  isplitl [Hst]; · iexact Hst
  isplitl [Hb]; · iexact Hb
  isplitl [Ha]; · iexact Ha
  isplitl [HG]; · iexact HG
  iintro ⟨Hst, Hb, Ha⟩
  ihave Ha' := (Entails.of_eq (arrays_open m d _)) $$ Ha
  icases Ha' with ⟨Hx, Hm, Hw, Hres, Hlen⟩
  ihave Hh := (Entails.of_eq (held_others (F := F) d _)) $$ Hheld
  icases Hh with ⟨Hrinv, Hfin, Hrest⟩
  iapply tc_then
  iapply ((K (F := F)).wp_run (D (F := F)) 𝒱 (EH := EH) (P := P (LEN m) (RES m)) κ d 0)
  isplitr; · iexact Hctx
  isplitl [Hst]; · iexact Hst
  isplitl [Hres Hlen Hrinv Hfin]
  · rw [given_all]; unfold given
    isplitl [Hlen]; · iexact Hlen
    isplitl [Hres]; · iexact Hres
    isplitl [Hrinv]; · iexists _; iexact Hrinv
    iexists _; iexact Hfin
  iintro ⟨Hst, Hdn⟩
  ihave Hdn' := (Entails.of_eq (returned_all m d)) $$ Hdn
  unfold returned
  icases Hdn' with ⟨Hlen, Hres, Hrinv, Hfin⟩
  rw [show (StableHlo.seq (unpack (F := F)) : Prog (TpuEff nD τ sig (Elt F) (SparseCore.Sig (ΛP (F := F)) 1) .tc) PUnit)
    = StableHlo.seq unpack >>= fun _ => .ret ⟨⟩ from rfl]
  ihave Hh := (Entails.of_eq (held_before m d (packed (LEN m d)) (gathered (LEN m d) (RES m d))).symm) $$ [Hrinv Hfin Hrest]
  · isplitl [Hrinv]; · iexact Hrinv
    isplitl [Hfin]; · iexact Hfin
    iexact Hrest
  iapply (StableHlo.wp_seq (defs := (K (F := F)).defs (D (F := F))) 𝒱 none Set.univ d touched (fun _ => .ret ⟨⟩) unpack unpack_within unpack_fresh (before m d (packed (LEN m d)) (gathered (LEN m d) (RES m d)))) $$ [Hb Hh]
  · isplitl [Hb]; · iexact Hb
    iexact Hh
  iintro ⟨Hb, Hh⟩
  ihave Hh' := (Entails.of_eq (held_touched (F := F) d _)) $$ Hh
  icases Hh' with ⟨-, -, -, -, H3, -, -, -, H6, H7⟩
  rw [wp_ret]; imodintro
  isplitl [Hst]; · iexact Hst
  isplitr [Hb Hts]
  · unfold FIN
    rw [← arrAt_x m d, ← arrAt_mask m d, ← arrAt_w m d, ← after_v3 m d _ (gathered (LEN m d) (RES m d)), ← after_v6 m d _ (gathered (LEN m d) (RES m d)), ← after_v7 m d (packed (LEN m d)) _]
    isplitl [Hx]; · iexact Hx
    isplitl [Hm]; · iexact Hm
    isplitl [Hw]; · iexact Hw
    isplitl [Hres]; · iexact Hres
    isplitl [H3]; · iexact H3
    isplitl [H6]; · iexact H6
    iexact H7
  isplitl [Hb] <;> iassumption

/-- What @main leaves in the memory of device `d`. -/
def Left (d : Dev nD) (mem : (ℓ : Loc nD τ sig) → Buf (Elt F) ℓ) : Prop :=
  mem (xLoc d) = m (xLoc d) ∧ mem (maskLoc d) = m (maskLoc d) ∧ mem (wLoc d) = m (wLoc d) ∧ mem (resLoc d) = RES m d
    ∧ mem ((SparseCore.T d).loc main_v3) = upper (packed (LEN m d)) ∧ mem ((SparseCore.T d).loc main_v6) = lower (packed (LEN m d))
    ∧ mem ((SparseCore.T d).loc main_v7) = lifted (gathered (LEN m d) (RES m d))

/-- A buffer held whole reads in the memory as it is held. -/
theorem held_reads (ℓ : Loc nD τ sig) (f : Buf (Elt F) ℓ) (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem both_hold {A B : sProp 𝕄} {S : sProp 𝕄} {p q : Prop} (hA : iprop(A ∗ S) ⊢ (⌜p⌝ : sProp 𝕄)) (hB : iprop(B ∗ S) ⊢ (⌜q⌝ : sProp 𝕄)) :
    iprop((A ∗ B) ∗ S) ⊢ (⌜p ∧ q⌝ : sProp 𝕄) := by
  refine (BIClass.and_intro (BIBase.Entails.trans ?_ hA) (BIBase.Entails.trans ?_ hB)).trans pure_and.1
  · iintro ⟨⟨HA, -⟩, HS⟩
    isplitl [HA] <;> iassumption
  · iintro ⟨⟨-, HB⟩, HS⟩
    isplitl [HB] <;> iassumption

theorem hfin (d : Dev nD) (s' : Phys nD τ sig (Elt F)) : iprop(FIN m d ∗ SI s') ⊢ (⌜Left m d s'.mem.mem⌝ : sProp 𝕄) := by
  unfold FIN Left
  exact both_hold (held_reads _ _ s') (both_hold (held_reads _ _ s') (both_hold (held_reads _ _ s') (both_hold (held_reads _ _ s')
    (both_hold (held_reads _ _ s') (both_hold (held_reads _ _ s') (held_reads _ _ s'))))))

/-- The ghost state the launch starts from: the handshakes' and the pipeline's cells. -/
def u₀ : UU := (initOf (K (F := F)).hsCells (K (F := F)).hsToks,
  (initOf (Pipeline.cells (nD := nD) (τ := τ) cfgs cellOf_inj) (Pipeline.launchToks (nD := nD) (τ := τ) cfgs cellOf_inj), 1))

theorem all_emp {I : Type} (s : Finset I) : (bigSep s fun _ => iprop(emp)) = (iprop(emp) : sProp 𝕄) := bigSep_emp_const s

theorem pipeline_own (a : UP) : (BI.own ((embR : Emb (UP × Counters) 𝕄) (a, 1)) : sProp 𝕄) = BI.own ((EP : Emb UP 𝕄) a) := by
  unfold EP; rfl

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (LEN m) (RES m)).x q thr) := by
  unfold u₀
  iintro Hu
  ihave H := (ownU_pair _ _) $$ Hu
  icases H with ⟨HH, HP⟩
  ihave HP' := (Entails.of_eq (pipeline_own _)) $$ HP
  imod (Pipeline.fund_ghost (nD := nD) (τ := τ) cfgs EP cellOf_inj) $$ HP' with ⟨Hg, Ht⟩
  imodintro
  isplitl [HH]; · iexact HH
  isplitl [Hg Ht]
  · unfold G
    rw [bigSep_sep']
    isplitl [Hg]
    · rw [show (Finset.univ : Finset (Fin 1)) = {0} by decide]
      simp only [bigSep_singleton]
      iexact Hg
    · rw [show (Finset.univ : Finset (Fin 1)) = {0} by decide]
      simp only [bigSep_singleton]
      iexact Ht
  · unfold P; dsimp only
    rw [show (bigSep Finset.univ fun thr : Thread nD τ => bigSep Finset.univ fun q : Fin 1 => (iprop(emp) : sProp 𝕄)) = iprop(emp) from by
      simp only [all_emp]]
    iempintro

/-- Every run of the program, from any memory whose lengths come out at most 4096, ends with the arguments as they were, the
    semaphores at 0 and the results at the values named in `Left`. -/
theorem run_main [∀ e, Nonempty (Elt F e)] (hL : ∀ d i, (words (LEN m d) i).toNat ≤ 4096) :
    θ_run (defs (F := F)) (threads (F := F)) ⟨m, fun _ => 0, ρ⟩ (fun r => (∀ d, Left m d r.2.mem) ∧ r.2.sem = fun _ => 0) :=
  SparseCore.Cfg.θ_run_sc_quiescent (K := K (F := F)) (D := D (F := F)) (𝒱 := 𝒱) (EH := EH) (P := P (LEN m) (RES m)) (A := ∅) facts v₀
    (fun q _ => match q with | 0 => scalarObl (LEN m) (RES m) hL)
    (fun q hq => match q with | 0 => nomatch hq)
    (fun q hq => match q with | 0 => nomatch hq)
    m ρ main (fun d => G (F := F) d) (FIN m) (u₀ (F := F)) (sep_elim_left.trans (hu₀ m)) (hmain m ρ) (fun d s' => Left m d s'.mem.mem) (hfin m)
    (fun r => (∀ d, Left m d r.2.mem) ∧ r.2.sem = fun _ => 0) (fun _ h hz => ⟨h, hz⟩)

end Cert.Proof.Ker
-- ==== Proof.Counts.lean ====
/- The row sums of a mask of 0.0s and 1.0s are counts: at words and at extended reals alike, the accumulated sums of such a
   mask are the numbers of its 1.0s, and their conversion to integers is exact. -/
module

public import proofs.«01_k».proof.Proof.MmDat
public import Idealize.ShloMosaic.Lib.NatWords
public import Idealize.ShloMosaic.Lib.IdealHost
public import Idealize.ShloMosaic.PureOps.Ideal.Laws

@[expose] public section

set_option maxRecDepth 16384

noncomputable section

namespace Cert.Proof.Ker

open Cert.KernelIdeal Cert.KernelIdeal.Gen
open Idealize.ShloMosaic Idealize.ShloMosaic.ValueIdx

/-- A reading of natural numbers as floats under which the operations of the row sums are exact below 2²⁴. -/
structure Naturals (F : FTy → Type) [FloatOps F] where
  /-- The float of a natural number. -/
  val : ℕ → F .f32
  zero : val 0 = FloatOps.ofBits .f32 0x00000000#32
  one : val 1 = FloatOps.ofBits .f32 0x3F800000#32
  add : ∀ a b, a + b < 2 ^ 24 → FloatOps.addf (val a) (val b) = val (a + b)
  rowSum : ∀ (src : FVec F S16x1024 .f32) (n : S16x1024.Idx → ℕ), (∀ i, src i = val (n i)) → ∀ r : Fin 16,
    ∑ s : Fin 1024, n (ix2 r s) < 2 ^ 24 →
      multiReduction .add [1] S16 src 0x00000000#32 reduces_S16x1024_S16 (.inl rfl) rfl (ix1 r) = val (∑ s : Fin 1024, n (ix2 r s))
  toInt : ∀ a, a < 2 ^ 24 → FloatOps.fptosi 32 (val a) = BitVec.ofNat 32 a

/-- A row's index, its column put in. -/
theorem lift_row (r : Fin 16) (s : Fin 1024) : reduces_S16x1024_S16.lift (ix1 r) s = ix2 r s := by
  funext q
  fin_cases q <;> rfl

/-- The members of a row, summed over the whole block's members that reduce to it. -/
theorem fiber_sum (n : S16x1024.Idx → ℕ) (r : Fin 16) :
    (Bits.reduceFiber reduces_S16x1024_S16 (ix1 r)).sum n = ∑ s : Fin 1024, n (ix2 r s) :=
  (reduces_S16x1024_S16.sum_filter_drop_single n (ix1 r)).trans
    (Finset.sum_congr rfl fun s _ => congrArg n (lift_row r s))

/-- A row's sum over words of naturals whose total is below 2²⁴ is the total's word. (The order of a float sum is not
specified; that such a sum is exact in every order is the one fact about it that is assumed.) -/
theorem rowSum_words (src : FVec Bits S16x1024 .f32) (n : S16x1024.Idx → ℕ) (hn : ∀ i, src i = Bits.f32OfNat (n i)) (r : Fin 16)
    (hS : ∑ s : Fin 1024, n (ix2 r s) < 2 ^ 24) :
    multiReduction .add [1] S16 src 0x00000000#32 reduces_S16x1024_S16 (.inl rfl) rfl (ix1 r)
      = Bits.f32OfNat (∑ s : Fin 1024, n (ix2 r s)) := by
  rw [← fiber_sum] at hS ⊢
  refine Bits.multiReduction_add_nat [1] reduces_S16x1024_S16 src (ix1 r) n ?_ hS
  intro i hi
  have hm : i ∈ Bits.reduceFiber reduces_S16x1024_S16 (ix1 r) := Finset.mem_filter.2 ⟨Finset.mem_univ i, hi⟩
  have hs : n i < 2 ^ 24 := lt_of_le_of_lt (Finset.single_le_sum (f := n) (fun _ _ => Nat.zero_le _) hm) hS
  rw [hn i]
  exact Bits.natOfF32?_f32OfNat _ hs

/-- The words of natural numbers. -/
def naturalWords : Naturals Bits where
  val := Bits.f32OfNat
  zero := Bits.f32OfNat_zero
  one := by rw [Bits.f32OfNat_eq 1 (by norm_num)]; decide
  add a b h := Bits.addf32_nat a b h
  rowSum := rowSum_words
  toInt a h := Bits.fptosi32_nat a h

/-- A finite sum of reals, as an extended real. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The extended reals of natural numbers. -/
def naturalReals : Naturals Ideal where
  val n := ((n : ℝ) : EReal)
  zero := by
    show ((0 : ℕ) : ℝ) = (Ideal.ofBits .f32 0x00000000#32 : EReal)
    simp
  one := by
    show ((1 : ℕ) : ℝ) = (Ideal.ofBits .f32 0x3F800000#32 : EReal)
    simp
  add a b _ := by
    show ((a : ℝ) : EReal) + ((b : ℝ) : EReal) = (((a + b : ℕ) : ℝ) : EReal)
    rw [Nat.cast_add, EReal.coe_add]
  rowSum src n hn r _ := by
    refine (Ideal.multiReduction_add_single src _ reduces_S16x1024_S16 (.inl rfl) rfl (ix1 r)).trans ?_
    have e : ((∑ s : Fin 1024, n (ix2 r s) : ℕ) : ℝ) = ∑ s : Fin 1024, (n (ix2 r s) : ℝ) := Nat.cast_sum _ _
    rw [e, coe_sum]
    exact Finset.sum_congr rfl fun s _ => (congrArg src (lift_row r s)).trans (hn _)
  toInt a h := by
    show Ideal.fptosi 32 ((a : ℝ) : EReal) = _
    have h0 : (0 : ℝ) ≤ (a : ℝ) := Nat.cast_nonneg a
    show BitVec.ofInt 32 (max (-((2 ^ (32 - 1) : ℕ) : ℤ)) (min (((2 ^ (32 - 1) : ℕ) : ℤ) - 1)
      (if 0 ≤ (a : ℝ) then ⌊(a : ℝ)⌋ else ⌈(a : ℝ)⌉))) = _
    rw [if_pos h0, Int.floor_natCast]
    rw [show max (-((2 ^ (32 - 1) : ℕ) : ℤ)) (min (((2 ^ (32 - 1) : ℕ) : ℤ) - 1) (a : ℤ)) = (a : ℤ) by omega]
    exact BitVec.ofInt_natCast 32 a

end Cert.Proof.Ker
-- ==== Proof.Arrays.lean ====
/- The blocks the TensorCore kernel reads, and its two output arrays after it, entry by entry. -/
module

public import proofs.«01_k».proof.Proof.Launch
public import proofs.«01_k».proof.Proof.Counts
public import Idealize.ShloMosaic.Lib.Pipeline.ValueKit.Geometry
public import Idealize.ShloMosaic.Lib.Pipeline.ValueKit.Point
public import Idealize.ShloMosaic.Lib.ValueLayout
public import Idealize.ShloMosaic.Lib.MatmulPlain

@[expose] public section

set_option maxRecDepth 16384

noncomputable section

namespace Cert.Proof.Ker

open Cert.KernelIdeal Cert.KernelIdeal.Gen
open Idealize.ShloMosaic hiding ix0 ix1 ix2 ix3 ix4
open Idealize.ShloMosaic.TcCoe Idealize.ShloMosaic.ValueIdx

variable {F : FTy → Type} [FloatOps F]

variable (m : (ℓ : Loc nD τ sig) → Buf (Elt F) ℓ) (d : Dev nD)

/-- Where each window's block lies at each point. -/
theorem index_eq : ∀ t : Fin cfg0.N, (cfg0.win 0).index t = ![0, t.val, 0] ∧ (cfg0.win 1).index t = ![0, t.val]
    ∧ (cfg0.win 2).index t = ![0, 0] ∧ (cfg0.win 3).index t = ![0, t.val, 0] := by decide +kernel

/-- Row `s` of block `t` as a row of the whole. -/
def rowAt (t : Fin cfg0.N) (s : Fin 1024) : Fin 4096 := ⟨t.val * 1024 + s.val, by have h1 := t.isLt; have h2 : cfg0.N = 4 := N_0; omega⟩

theorem blockAt_x (t : Fin cfg0.N) (r : Fin 16) (s : Fin 1024) (c : Fin 128) :
    blockAt m d 0 t (ix3 r s c) = m (xLoc d) (ix3 r (rowAt t s) c) := by
  blk_ext [blockAt, rowAt, (index_eq t).1]

theorem blockAt_mask (t : Fin cfg0.N) (r : Fin 16) (s : Fin 1024) :
    blockAt m d 1 t (ix2 r s) = m (maskLoc d) (ix2 r (rowAt t s)) := by
  blk_ext [blockAt, rowAt, (index_eq t).2.1]

theorem blockAt_w (t : Fin cfg0.N) (k : Fin 128) (c : Fin 128) :
    blockAt m d 2 t (ix2 k c) = m (wLoc d) (ix2 k c) := by
  blk_ext [blockAt, (index_eq t).2.2.1]

/-- The lengths' array after the kernel is what the last point writes. -/
theorem LEN_eq : LEN m d = k0_pay4 (sums m d 3 (by rw [show cfg0.N = 4 from N_0]; decide)) := by
  refine (data m 0 d).arrAt_eq_of_after_last 4 t0_3 (by decide +kernel) _ fun j => ?_
  blk_simp
  rw [after_4]
  rfl

/-- An entry of the accumulator's next contents. -/
theorem pay3_apply (v4 : Vec F S16x1024 .f32) (v13 : Vec F S1x16 .f32) (r : Fin 16) :
    k0_pay3 v4 v13 (ix2 0 r) = FloatOps.addf (v13 (ix2 0 r))
      (multiReduction .add [1] S16 v4 0x00000000#32 reduces_S16x1024_S16 (.inl rfl) rfl (ix1 r)) := by
  unfold k0_pay3
  dsimp only
  rw [shapeCast_self]
  show FloatOps.addf (v13 (ix2 0 r)) (shapeCast S1x16 _ shapeCasts_S16_S1x16 (ix2 0 r)) = _
  exact congrArg _ (shapeCast_a_1a_apply _ _ 0 r)

/-- A count of at most one each over so many. -/
theorem count_le (g : ℕ → ℕ) (hb : ∀ x, g x ≤ 1) (k : ℕ) : ∑ x ∈ Finset.range k, g x ≤ k := by
  refine (Finset.sum_le_card_nsmul _ _ 1 fun x _ => hb x).trans ?_
  rw [Finset.card_range, smul_eq_mul, mul_one]

variable (U : Naturals F) (n : Fin 16 → ℕ → ℕ)

/-- The row sums of a block. -/
theorem block_sum (hn : ∀ r (s : Fin 4096), m (maskLoc d) (ix2 r s) = U.val (n r s.val)) (hb : ∀ r x, n r x ≤ 1) (r : Fin 16) (t : Fin cfg0.N) :
    multiReduction .add [1] S16 (blockAt m d 1 t) 0x00000000#32 reduces_S16x1024_S16 (.inl rfl) rfl (ix1 r)
      = U.val (∑ x ∈ Finset.range 1024, n r (t.val * 1024 + x)) := by
  rw [Finset.sum_range]
  refine U.rowSum (blockAt m d 1 t) (fun i => n (i 0) (t.val * 1024 + (i 1).val)) (fun i => ?_) r ?_
  · have hi : i = ix2 (i 0) (i 1) := by
      funext q
      fin_cases q <;> rfl
    refine (congrArg (blockAt m d 1 t) hi).trans ((blockAt_mask m d t (i 0) (i 1)).trans (hn _ _))
  · have h := count_le (fun x => n r (t.val * 1024 + x)) (fun x => hb _ _) 1024
    rw [Finset.sum_range] at h
    refine lt_of_le_of_lt h ?_
    norm_num

/-- One point's step: a count so far, and the block's count on top of it. -/
theorem step_eq (hn : ∀ r (s : Fin 4096), m (maskLoc d) (ix2 r s) = U.val (n r s.val)) (hb : ∀ r x, n r x ≤ 1) (r : Fin 16)
    (t : Fin cfg0.N) (acc : Vec F S1x16 .f32) (k : ℕ) (hk : k ≤ 8192) (hacc : acc (ix2 0 r) = U.val k) :
    k0_pay3 (blockAt m d 1 t) acc (ix2 0 r) = U.val (k + ∑ x ∈ Finset.range 1024, n r (t.val * 1024 + x)) := by
  have h := count_le (fun x => n r (t.val * 1024 + x)) (fun x => hb _ _) 1024
  rw [pay3_apply, block_sum m d U n hn hb r t, hacc]
  exact U.add _ _ (by generalize ∑ x ∈ Finset.range 1024, n r (t.val * 1024 + x) = q at h; norm_num; omega)

/-- The accumulator starts at zero. -/
theorem pay1_apply (r : Fin 16) : k0_pay1 (F := F) (ix2 0 r) = U.val 0 := by
  rw [U.zero]
  unfold k0_pay1
  rw [shapeCast_self]
  rfl

/-- The accumulator after the first point, -/
theorem sums_first (ht : 0 < cfg0.N) : sums m d 0 ht = k0_pay3 (blockAt m d 1 ⟨0, ht⟩) (k0_pay1 (F := F)) := rfl

/-- and after each further one. -/
theorem sums_next (t : ℕ) (ht : t + 1 < cfg0.N) :
    sums m d (t + 1) ht = k0_pay3 (blockAt m d 1 ⟨t + 1, ht⟩) (sums m d t (Nat.lt_of_succ_lt ht)) := rfl

/-- The accumulator after point `t`: each row's count over the blocks so far. -/
theorem sums_eq (hn : ∀ r (s : Fin 4096), m (maskLoc d) (ix2 r s) = U.val (n r s.val)) (hb : ∀ r x, n r x ≤ 1) (r : Fin 16)
    (t : ℕ) (ht : t < cfg0.N) : sums m d t ht (ix2 0 r) = U.val (∑ x ∈ Finset.range ((t + 1) * 1024), n r x) := by
  induction t with
  | zero =>
    have e := step_eq m d U n hn hb r ⟨0, ht⟩ _ 0 (Nat.zero_le _) (pay1_apply U r)
    rw [sums_first, e, Nat.zero_add, Nat.zero_add, Nat.one_mul]
    simp only [Nat.zero_mul, Nat.zero_add]
  | succ t ih =>
    have h1 := count_le (fun x => n r x) (fun x => hb _ _) ((t + 1) * 1024)
    have h3 : t + 1 < 4 := lt_of_lt_of_eq ht N_0
    have e := step_eq m d U n hn hb r ⟨t + 1, ht⟩ _ _ (h1.trans (by omega)) (ih (Nat.lt_of_succ_lt ht))
    rw [sums_next, e, Nat.succ_mul (t + 1) 1024, Finset.sum_range_add]

/-- The lengths: each row's count, as a word. -/
theorem words_LEN (hn : ∀ r (s : Fin 4096), m (maskLoc d) (ix2 r s) = U.val (n r s.val)) (hb : ∀ r x, n r x ≤ 1) (r : Fin 16) :
    words (LEN m d) r = BitVec.ofNat 32 (∑ x ∈ Finset.range 4096, n r x) := by
  have h := count_le (fun x => n r x) (fun x => hb _ _) 4096
  unfold words
  rw [LEN_eq]
  show FloatOps.fptosi 32 (sums m d 3 _ (ix2 0 r)) = _
  rw [sums_eq m d U n hn hb r 3]
  exact U.toInt _ (by generalize ∑ x ∈ Finset.range 4096, n r x = q at h; norm_num; omega)

/-- So no length exceeds the number of rows. -/
theorem words_LEN_le (hn : ∀ r (s : Fin 4096), m (maskLoc d) (ix2 r s) = U.val (n r s.val)) (hb : ∀ r x, n r x ≤ 1) (r : Fin 16) :
    (words (LEN m d) r).toNat ≤ 4096 := by
  have h := count_le (fun x => n r x) (fun x => hb _ _) 4096
  rw [words_LEN m d U n hn hb r, BitVec.toNat_ofNat]
  exact (Nat.mod_le _ _).trans h

end Cert.Proof.Ker
-- ==== Proof.Pre.lean ====
/- What the precondition says of the mask: every entry is 0.0 or 1.0 to the bit, and along a row none exceeds the one before it. -/
module

public import proofs.«01_k».proof.Proof.Gen.Pre_prefix_mask
public import Idealize.ShloMosaic.Lib.ReduceAll
public import Idealize.ShloMosaic.Lib.SortFacts
public import Idealize.ShloMosaic.Lib.TotalOrder
public import Idealize.ShloMosaic.Lib.ValueLayout
public import Idealize.ShloMosaic.Lib.Pipeline.Value

@[expose] public section

set_option maxRecDepth 16384

noncomputable section

namespace Cert.Proof.Mask

open Cert.Pre_prefix_mask Cert.Pre_prefix_mask.Gen
open Idealize.ShloMosaic Idealize.ShloMosaic.ValueIdx

variable {F : FTy → Type} [FloatOps F]

/-- Three entries, the middle one between two equal ones. -/
def triple (c x : F .f32) : Fin 3 → F .f32 := ![c, x, c]

/-- The descending order of the triple's entries. -/
def above (c x : F .f32) (k k' : Fin 3) : Bool := FloatOps.cmpfTotal .gt (triple c x k) (triple c x k') == 1#1

/-- Neither `x` nor `c` is above the other in the total order. -/
def Level (c x : F .f32) : Prop := FloatOps.cmpfTotal .gt x c ≠ 1#1 ∧ FloatOps.cmpfTotal .gt c x ≠ 1#1

/-- A sort of three positions by a table of four comparisons leaves the middle where it is only if the two comparisons
between the middle and its sides both fail. -/
theorem middle_table : ∀ a b f : Bool,
    sortedFrom (n := 3) (fun k k' => if k = 1 then (if k' = 1 then f else b) else (if k' = 1 then a else false)) 1 = 1 →
      a = false ∧ b = false := by decide

/-- Where the stable descending sort of `c, x, c` leaves `x` in the middle, neither is above the other. -/
theorem level_of_middle (c x : F .f32) (hc : FloatOps.cmpfTotal .gt c c ≠ 1#1) (h : sortedFrom (above c x) 1 = 1) :
    Level c x := by
  have e : above c x = fun k k' => if k = 1 then (if k' = 1 then (FloatOps.cmpfTotal .gt x x == 1#1) else (FloatOps.cmpfTotal .gt x c == 1#1))
      else (if k' = 1 then (FloatOps.cmpfTotal .gt c x == 1#1) else false) := by
    have hf : (FloatOps.cmpfTotal .gt c c == 1#1) = false := by simpa using hc
    funext k k'
    fin_cases k <;> fin_cases k' <;> first | rfl | exact hf
  rw [e] at h
  obtain ⟨h1, h2⟩ := middle_table _ _ _ h
  exact ⟨by simpa using h2, by simpa using h1⟩

/-- The mask between two arrays of the constant word `w`, along a new last axis. -/
def stacked (w : BitVec 32) (a : FVec F S16x4096 .f32) : FVec F S16x4096x3 .f32 :=
  concatenate S16x4096x3 2
    [⟨S16x4096x1, broadcastInDim S16x4096x1 ![0, 1] bcast_S16x4096_S16x4096x1_0_1
        (broadcastInDim S16x4096 ![] bcast_S_S16x4096 (constant (F := F) S_ .f32 w))⟩,
     ⟨S16x4096x1, broadcastInDim S16x4096x1 ![0, 1] bcast_S16x4096_S16x4096x1_0_1 a⟩,
     ⟨S16x4096x1, broadcastInDim S16x4096x1 ![0, 1] bcast_S16x4096_S16x4096x1_0_1
        (broadcastInDim S16x4096 ![] bcast_S_S16x4096 (constant (F := F) S_ .f32 w))⟩]
    concatenates_S16x4096x1_S16x4096x1_S16x4096x1_S16x4096x3_d2

/-- The positions, along the last axis, that the descending sort of the stack puts in each place. -/
def places (w : BitVec 32) (a : FVec F S16x4096 .f32) : IVec S16x4096x3 32 :=
  (Host.topK S16x4096x3 2 (FloatOps.cmpfTotal .gt) (stacked w a) sliceFits_S16x4096x3_S16x4096x3).2

/-- Where the middle stays in the middle. -/
def stays (w : BitVec 32) (a : FVec F S16x4096 .f32) : IVec S16x4096 1 :=
  cmpi .eq (shapeCast S16x4096 (extractStridedSlice S16x4096x1 ![0, 0, 1] (places w a) slices_S16x4096x3_S16x4096x1_0_0_1)
      shapeCasts_S16x4096x1_S16x4096)
    (broadcastInDim S16x4096 ![] bcast_S_S16x4096 (constantI S_ 32 1#32))

/-- The descents of the mask's rows. -/
def descends (a : FVec F S16x4096 .f32) : IVec S16x4095 1 :=
  cmpf .ole (extractStridedSlice S16x4095 ![0, 1] a slices_S16x4096_S16x4095_0_1)
    (extractStridedSlice S16x4095 ![0, 0] a slices_S16x4096_S16x4095_0_0)

/-- The precondition's function, in the names above. -/
theorem fn_eq (x : FVec F S16x4096x128 .f32) (a : FVec F S16x4096 .f32) (b : FVec F S128x128 .f32) :
    fn x a b = andi
      (Host.reduce IntOp.andi (ori (stays 0x00000000#32 a) (stays 0x3F800000#32 a)) (constantI S_ 1 1#1) reducesTo_S16x4096_S_d0_1 h_S_)
      (Host.reduce IntOp.andi (descends a) (constantI S_ 1 1#1) reducesTo_S16x4095_S_d0_1 h_S_) := rfl

/-- The stack at `(r, s, k)`. -/
theorem stacked_apply (w : BitVec 32) (a : FVec F S16x4096 .f32) (r : Fin 16) (s : Fin 4096) (k : Fin 3) :
    stacked w a (ix3 r s k) = triple (FloatOps.ofBits .f32 w) (a (ix2 r s)) k := by
  fin_cases k
  · rfl
  · show a _ = a _
    congr 1
    funext q
    fin_cases q <;> rfl
  · rfl

/-- An index of the sorted axis replaced. -/
theorem along_last (r : Fin 16) (s : Fin 4096) (k k' : Fin 3) :
    Shape.Idx.along (s := S16x4096x3) (ix3 r s k) 2 k' = ix3 r s k' := by
  funext q
  fin_cases q <;> rfl

/-- The position put in the middle at `(r, s)`. -/
theorem places_apply (w : BitVec 32) (a : FVec F S16x4096 .f32) (r : Fin 16) (s : Fin 4096) (k : Fin 3) :
    places w a (ix3 r s k) = BitVec.ofNat 32 (sortedFrom (above (FloatOps.ofBits .f32 w) (a (ix2 r s))) k).val := by
  have e : (fun k0 k' : Fin 3 => FloatOps.cmpfTotal .gt (stacked w a (Shape.Idx.along (s := S16x4096x3) (ix3 r s k) 2 k0))
      (stacked w a (Shape.Idx.along (s := S16x4096x3) (ix3 r s k) 2 k')) == 1#1) = above (FloatOps.ofBits .f32 w) (a (ix2 r s)) := by
    funext k0 k'
    rw [along_last, along_last, stacked_apply, stacked_apply]
    rfl
  rw [← e]
  have hz : ∀ (x : IVec S16x4096x3 32), extractStridedSlice S16x4096x3 (fun _ => 0) x sliceFits_S16x4096x3_S16x4096x3 (ix3 r s k) = x (ix3 r s k) := by
    intro x
    unfold extractStridedSlice
    congr 1
    funext q
    apply Fin.ext
    exact Nat.zero_add _
  unfold places Host.topK
  dsimp only
  refine (hz _).trans ?_
  rfl

/-- Where the middle stays, mask and constant are level. -/
theorem level_of_stays (w : BitVec 32) (hw : FloatOps.cmpfTotal (F := F) .gt (FloatOps.ofBits .f32 w) (FloatOps.ofBits .f32 w) ≠ 1#1)
    (a : FVec F S16x4096 .f32) (r : Fin 16) (s : Fin 4096) (h : stays w a (ix2 r s) = 1#1) :
    Level (FloatOps.ofBits .f32 w) (a (ix2 r s)) := by
  apply level_of_middle _ _ hw
  have h1 : shapeCast S16x4096 (extractStridedSlice S16x4096x1 ![0, 0, 1] (places w a) slices_S16x4096x3_S16x4096x1_0_0_1)
      shapeCasts_S16x4096x1_S16x4096 (ix2 r s) = places w a (ix3 r s 1) := by
    refine (shapeCast_apply _ _ (ix2 r s) (ix3 r s 0) ?_).trans ?_
    · rw [Shape.rowMajor_val_three, Shape.rowMajor_val_two]
      show (r.val * 4096 + s.val) * 1 + 0 = r.val * 4096 + s.val
      omega
    · unfold extractStridedSlice
      congr 1
      funext q
      fin_cases q
      · exact Fin.ext (Nat.zero_add _)
      · exact Fin.ext (Nat.zero_add _)
      · rfl
  have h2 : places w a (ix3 r s 1) = 1#32 := by
    rw [← h1]
    have h3 : BitVec.ofBool (shapeCast S16x4096 (extractStridedSlice S16x4096x1 ![0, 0, 1] (places w a) slices_S16x4096x3_S16x4096x1_0_0_1)
      shapeCasts_S16x4096x1_S16x4096 (ix2 r s) == 1#32) = 1#1 := h
    generalize shapeCast S16x4096 (extractStridedSlice S16x4096x1 ![0, 0, 1] (places w a) slices_S16x4096x3_S16x4096x1_0_0_1)
      shapeCasts_S16x4096x1_S16x4096 (ix2 r s) = y at h3
    by_contra hne
    rw [beq_eq_false_iff_ne.2 hne] at h3
    exact absurd h3 (by decide)
  rw [places_apply] at h2
  have : ∀ k : Fin 3, BitVec.ofNat 32 k.val = 1#32 → k = 1 := by decide
  exact this _ h2

/-- A bit that is the or of two is one only if one of them is. -/
theorem or_one : ∀ x y : BitVec 1, x ||| y = 1#1 → x = 1#1 ∨ y = 1#1 := by decide

/-- A bit that is the and of two is one only if both are. -/
theorem and_one : ∀ x y : BitVec 1, x &&& y = 1#1 → x = 1#1 ∧ y = 1#1 := by decide

/-- A slice of a matrix's columns from `o` on, at `(i, j)`. -/
theorem slice_cols {α : Type} {a n n' : ℕ} (o : ℕ) (x : (⟨2, ![a, n]⟩ : Shape).Idx → α)
    (h : (⟨2, ![a, n]⟩ : Shape).Slices ![0, o] ⟨2, ![a, n']⟩) (i : Fin a) (j : Fin n') (k : Fin n) (hk : k.val = o + j.val) :
    extractStridedSlice ⟨2, ![a, n']⟩ ![0, o] x h (ix2 i j) = x (ix2 i k) := by
  unfold extractStridedSlice
  congr 1
  funext q
  fin_cases q
  · exact Fin.ext (Nat.zero_add _)
  · exact Fin.ext hk.symm

/-- A bit computed over all positions is one only if it is one at each. -/
theorem all_of_reduce {s : Shape} {ds : List (Fin s.rank)} (x : IVec s 1) (h : s.ReducesTo ds S_) (hu : 0 < S_.numel)
    (e : Host.reduce IntOp.andi x (constantI S_ 1 1#1) h hu ix0 = 1#1) (i : s.Idx) : x i = 1#1 :=
  haveI : Subsingleton S_.Idx := ⟨fun i j => funext fun q => q.elim0⟩
  Host.reduce_andi_all x _ h hu ix0 e i

/-- The precondition read entry by entry: each entry is level with 0.0 or with 1.0, and along a row each is at most the
one before. -/
theorem of_fn (x : FVec F S16x4096x128 .f32) (a : FVec F S16x4096 .f32) (b : FVec F S128x128 .f32)
    (hirr : ∀ y : F .f32, FloatOps.cmpfTotal .gt y y ≠ 1#1) (h : fn x a b = fun _ => 1#1) :
    (∀ r s, Level (FloatOps.ofBits .f32 0x00000000#32) (a (ix2 r s)) ∨ Level (FloatOps.ofBits .f32 0x3F800000#32) (a (ix2 r s)))
      ∧ ∀ (r : Fin 16) (s s' : Fin 4096), s'.val = 1 + s.val → FloatOps.cmpf .ole (a (ix2 r s')) (a (ix2 r s)) = 1#1 := by
  rw [fn_eq] at h
  have h0 := congrFun h ix0
  obtain ⟨h1, h2⟩ := and_one _ _ h0
  constructor
  · intro r s
    rcases or_one _ _ (all_of_reduce _ _ _ h1 (ix2 r s)) with h3 | h3
    · exact .inl (level_of_stays _ (hirr _) a r s h3)
    · exact .inr (level_of_stays _ (hirr _) a r s h3)
  · intro r s s' hs
    have h3 := all_of_reduce _ _ _ h2 (ix2 r (⟨s.val, by have := s'.isLt; omega⟩ : Fin 4095))
    have e1 := slice_cols 1 a slices_S16x4096_S16x4095_0_1 r (⟨s.val, by have := s'.isLt; omega⟩ : Fin 4095) s' hs
    have e2 := slice_cols 0 a slices_S16x4096_S16x4095_0_0 r (⟨s.val, by have := s'.isLt; omega⟩ : Fin 4095) s (Nat.zero_add _).symm
    rw [← e1, ← e2]
    exact h3

/-- No word is above itself. -/
theorem irrefl_bits (y : Bits .f32) : FloatOps.cmpfTotal (F := Bits) .gt y y ≠ 1#1 := by
  show BitVec.ofBool (BitVec.ult (totalOrderKey (Bits.toBits y)) (totalOrderKey (Bits.toBits y))) ≠ 1#1
  have : BitVec.ult (totalOrderKey (Bits.toBits y)) (totalOrderKey (Bits.toBits y)) = false := by
    simp [BitVec.ult]
  rw [this]; decide

/-- At words, two that are level are one word. -/
theorem eq_of_level_bits (c x : Bits .f32) (h : Level (F := Bits) c x) : x = c := by
  obtain ⟨h1, h2⟩ := h
  change BitVec.ofBool (BitVec.ult (totalOrderKey (Bits.toBits c)) (totalOrderKey (Bits.toBits x))) ≠ 1#1 at h1
  change BitVec.ofBool (BitVec.ult (totalOrderKey (Bits.toBits x)) (totalOrderKey (Bits.toBits c))) ≠ 1#1 at h2
  have hk : totalOrderKey (Bits.toBits x) = totalOrderKey (Bits.toBits c) := by
    apply BitVec.eq_of_toNat_eq
    apply le_antisymm
    · by_contra hlt
      apply h1
      have : BitVec.ult (totalOrderKey (Bits.toBits c)) (totalOrderKey (Bits.toBits x)) = true := by
        simpa [BitVec.ult] using hlt
      rw [this]; rfl
    · by_contra hlt
      apply h2
      have : BitVec.ult (totalOrderKey (Bits.toBits x)) (totalOrderKey (Bits.toBits c)) = true := by
        simpa [BitVec.ult] using hlt
      rw [this]; rfl
  exact (TotalOrder.totalOrderKey_eq_iff (e := 8) (m := 23) _ _).1 hk

/-- No extended real is above itself. -/
theorem irrefl_ideal (y : Ideal .f32) : FloatOps.cmpfTotal (F := Ideal) .gt y y ≠ 1#1 := by
  show BitVec.ofBool (decide ((y : EReal) < y)) ≠ 1#1
  simp

/-- At extended reals, two that are level are equal. -/
theorem eq_of_level_ideal (c x : Ideal .f32) (h : Level (F := Ideal) c x) : x = c := by
  obtain ⟨h1, h2⟩ := h
  change BitVec.ofBool (decide ((c : EReal) < x)) ≠ 1#1 at h1
  change BitVec.ofBool (decide ((x : EReal) < c)) ≠ 1#1 at h2
  apply le_antisymm (α := EReal)
  · by_contra hlt
    exact h1 (by rw [decide_eq_true (not_le.1 hlt)]; rfl)
  · by_contra hlt
    exact h2 (by rw [decide_eq_true (not_le.1 hlt)]; rfl)

/-- The precondition at words: each entry is the word of 0.0 or of 1.0. -/
theorem entries_bits (x : FVec Bits S16x4096x128 .f32) (a : FVec Bits S16x4096 .f32) (b : FVec Bits S128x128 .f32)
    (h : fn x a b = fun _ => 1#1) (r : Fin 16) (s : Fin 4096) :
    a (ix2 r s) = FloatOps.ofBits .f32 0x00000000#32 ∨ a (ix2 r s) = FloatOps.ofBits .f32 0x3F800000#32 :=
  ((of_fn x a b irrefl_bits h).1 r s).imp (eq_of_level_bits _ _) (eq_of_level_bits _ _)

/-- The precondition at extended reals: each entry is 0 or 1, and along a row none exceeds the one before. -/
theorem entries_ideal (x : FVec Ideal S16x4096x128 .f32) (a : FVec Ideal S16x4096 .f32) (b : FVec Ideal S128x128 .f32)
    (h : fn x a b = fun _ => 1#1) :
    (∀ r s, a (ix2 r s) = (FloatOps.ofBits .f32 0x00000000#32 : Ideal .f32) ∨ a (ix2 r s) = (FloatOps.ofBits .f32 0x3F800000#32 : Ideal .f32))
      ∧ ∀ (r : Fin 16) (s s' : Fin 4096), s'.val = 1 + s.val → (a (ix2 r s') : EReal) ≤ a (ix2 r s) := by
  obtain ⟨h1, h2⟩ := of_fn x a b irrefl_ideal h
  refine ⟨fun r s => (h1 r s).imp (eq_of_level_ideal _ _) (eq_of_level_ideal _ _), fun r s s' hs => ?_⟩
  have h3 : BitVec.ofBool (decide ((a (ix2 r s') : EReal) ≤ a (ix2 r s))) = 1#1 := h2 r s s' hs
  by_contra hlt
  rw [decide_eq_false hlt] at h3
  exact absurd h3 (by decide)

end Cert.Proof.Mask
-- ==== Proof.Frames.lean ====
/- The run under the precondition: the mask's entries as natural numbers, the bound on the lengths, and the kernel's run at words and at extended reals. -/
module

public import proofs.«01_k».proof.Defs
public import proofs.«01_k».proof.Proof.Run
public import proofs.«01_k».proof.Proof.Arrays
public import proofs.«01_k».proof.Proof.Pre
public import proofs.«01_k».proof.Proof.Gen.Kernel

@[expose] public section

set_option maxRecDepth 16384

noncomputable section

namespace Cert.Proof.Ker

open Cert.KernelIdeal Cert.KernelIdeal.Gen
open Idealize.ShloMosaic hiding ix0 ix1 ix2 ix3 ix4
open Idealize.ShloMosaic.TcCoe Idealize.ShloMosaic.ValueIdx Idealize.SL.Sem

variable {F : FTy → Type} [FloatOps F]

open Classical in
/-- A mask's entry as a natural number: 1 where it is 1.0, else 0 (and 0 past the row's end). -/
def entry (U : Naturals F) (a : FVec F S16x4096 .f32) (r : Fin 16) (x : ℕ) : ℕ :=
  if h : x < 4096 then (if a (ix2 r ⟨x, h⟩) = U.val 1 then 1 else 0) else 0

theorem entry_le (U : Naturals F) (a : FVec F S16x4096 .f32) (r : Fin 16) (x : ℕ) : entry U a r x ≤ 1 := by
  unfold entry
  split
  · split <;> omega
  · omega

/-- Where every entry is 0.0 or 1.0, the mask is its entries read back. -/
theorem entry_val (U : Naturals F) (a : FVec F S16x4096 .f32)
    (h : ∀ r s, a (ix2 r s) = FloatOps.ofBits .f32 0x00000000#32 ∨ a (ix2 r s) = FloatOps.ofBits .f32 0x3F800000#32)
    (r : Fin 16) (s : Fin 4096) : a (ix2 r s) = U.val (entry U a r s.val) := by
  unfold entry
  rw [dif_pos s.isLt]
  by_cases h1 : a (ix2 r ⟨s.val, s.isLt⟩) = U.val 1
  · rw [if_pos h1]; exact h1
  · rw [if_neg h1, U.zero]
    exact (h r s).resolve_right fun h2 => h1 (h2.trans U.one.symm)

/-- The run at words, under the precondition. -/
theorem run_words (m : (ℓ : Loc nD τ sig) → Buf (Elt Bits) ℓ) (ρ : Dev nD → PrngReg)
    (hpre : ∀ c : Dev nD, Cert.Pre_prefix_mask.fn (F := Bits) (m (xLoc c)) (m (maskLoc c)) (m (wLoc c)) = fun _ => 1#1) :
    θ_run (defs (F := Bits)) (threads (F := Bits)) ⟨m, fun _ => 0, ρ⟩ (fun r => (∀ d, Left m d r.2.mem) ∧ r.2.sem = fun _ => 0) :=
  run_main m ρ fun d i => words_LEN_le m d naturalWords (entry naturalWords (m (maskLoc d)))
    (entry_val naturalWords _ (Cert.Proof.Mask.entries_bits _ _ _ (hpre d))) (entry_le naturalWords _) i

/-- The run at extended reals, under the precondition. -/
theorem run_reals (m : (ℓ : Loc nD τ sig) → Buf (Elt Ideal) ℓ) (ρ : Dev nD → PrngReg)
    (hpre : ∀ c : Dev nD, Cert.Pre_prefix_mask.fn (F := Ideal) (m (xLoc c)) (m (maskLoc c)) (m (wLoc c)) = fun _ => 1#1) :
    θ_run (defs (F := Ideal)) (threads (F := Ideal)) ⟨m, fun _ => 0, ρ⟩ (fun r => (∀ d, Left m d r.2.mem) ∧ r.2.sem = fun _ => 0) :=
  run_main m ρ fun d i => words_LEN_le m d naturalReals (entry naturalReals (m (maskLoc d)))
    (entry_val naturalReals _ (Cert.Proof.Mask.entries_ideal _ _ _ (hpre d)).1) (entry_le naturalReals _) i

/-- The idealized kernel's frame. -/
theorem frame_ideal : Cert.quiescent_KernelIdeal := fun m ρ hpre =>
  (θ_run (defs (F := Ideal)) _ _).mono (fun _ h => ⟨fun c => ⟨(h.1 c).1, (h.1 c).2.1, (h.1 c).2.2.1⟩, h.2⟩) (run_reals m ρ hpre)

/-- The two programs have one text: their kernels' bodies, -/
theorem bodies_same : Cert.Kernel.defs₀ (F := Bits) = defs₀ (F := Bits) := by
  funext p l a
  match p, l, a with
  | .tc, 0, a => with_unfolding_all rfl
  | .scScalar c, 1, a => with_unfolding_all rfl
  | .tc, 1, _ => with_unfolding_all rfl
  | .scScalar _, 0, _ => with_unfolding_all rfl
  | .scVector _ _, 0, _ => with_unfolding_all rfl
  | .scVector _ _, 1, _ => with_unfolding_all rfl

/-- and so their tables of bodies. -/
theorem defs_same : Cert.Kernel.defs (F := Bits) = defs (F := Bits) := by
  unfold Cert.Kernel.defs
  rw [bodies_same]
  with_unfolding_all rfl

/-- The kernel's frame. -/
theorem frame_kernel : Cert.quiescent_Kernel := by
  intro m ρ hpre
  have h := (θ_run (defs (F := Bits)) (threads (F := Bits)) ⟨m, fun _ => 0, ρ⟩).mono
    (Q' := fun r => (∀ c : Dev nD, r.2.mem (xLoc c) = m (xLoc c) ∧ r.2.mem (maskLoc c) = m (maskLoc c) ∧ r.2.mem (wLoc c) = m (wLoc c))
      ∧ r.2.sem = fun _ => 0)
    (fun _ h => ⟨fun c => ⟨(h.1 c).1, (h.1 c).2.1, (h.1 c).2.2.1⟩, h.2⟩) (run_words m ρ hpre)
  rw [defs_same]
  with_unfolding_all exact h

end Cert.Proof.Ker
-- ==== Proof.RefFrame.lean ====
/- The reference's frame: it runs to its end, leaves its arguments as they were, and declares no semaphore. -/
module

public import proofs.«01_k».proof.Defs
public import proofs.«01_k».proof.Proof.Gen.ReferenceIdeal.Run
public import proofs.«01_k».proof.Proof.Gen.Pre_prefix_mask
public import Idealize.ShloMosaic.Lib.Quiescent

@[expose] public section

noncomputable section

namespace Cert.Proof

open Idealize.ShloMosaic Idealize

variable {F : FTy → Type} [FloatOps F]

/-- The reference, from any memory, ends with its three arguments unchanged and every semaphore at zero. -/
theorem reference_frame (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) Cert.ReferenceIdeal.main) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2.2.2.2, sem_eq_zero_of_no_sems (by decide) r.2⟩)
    (Cert.ReferenceIdeal.Value.run m ρ)

/-- The reference's frame, on any arguments. -/
theorem frame_reference : Cert.quiescent_ReferenceIdeal := fun m ρ _ => reference_frame m ρ

/-- The reference's frame, on the arguments the precondition admits. -/
theorem frame_reference_pre : Cert.quiescent_ReferenceIdeal_pre_prefix_mask := fun m ρ _ => reference_frame m ρ

end Cert.Proof
-- ==== Proof.Product.lean ====
/- What the kernel's product array holds at extended reals: at each entry the row of the inputs times the matrix, times the
   row's mask entry. -/
module

public import proofs.«01_k».proof.Proof.Arrays

@[expose] public section

set_option maxRecDepth 16384

noncomputable section

namespace Cert.Proof.Ker

open Cert.KernelIdeal Cert.KernelIdeal.Gen
open Idealize.ShloMosaic hiding ix0 ix1 ix2 ix3 ix4
open Idealize.ShloMosaic.TcCoe Idealize.ShloMosaic.ValueIdx

/-- One block's product, read at an entry. -/
theorem pay2_apply (v3 : FVec Ideal S16x1024x128 .f32) (v4 : FVec Ideal S16x1024 .f32) (v5 : FVec Ideal S128x128 .f32)
    (r : Fin 16) (s : Fin 1024) (q : Fin 128) :
    (k0_pay2 (F := Ideal) v3 v4 v5 (ix3 r s q) : EReal)
      = (∑ k : Fin 128, (v3 (ix3 r s k) : EReal) * (v5 (ix2 k q) : EReal)) * (v4 (ix2 r s) : EReal) := by
  unfold k0_pay2
  show (shapeCast S16x1024x128 _ shapeCasts_S16384x128_S16x1024x128 (ix3 r s q) : EReal)
    * (broadcastTo S16x1024x128 _ broadcasts_S16x1024x1_S16x1024x128 (ix3 r s q) : EReal) = _
  have hk : r.val * 1024 + s.val < 16384 := by omega
  have e1 : (shapeCast S16x1024x128 (matmul (φ₁ := .f32) (φ₂ := .f32) dot_S16384x128_S128x128_S16384x128_1_0_0_1_n_n none
        (shapeCast S16384x128 v3 shapeCasts_S16x1024x128_S16384x128) v5 (constant (F := Ideal) S16384x128 .f32 0x00000000#32))
        shapeCasts_S16384x128_S16x1024x128 (ix3 r s q) : EReal)
      = ∑ k : Fin 128, (v3 (ix3 r s k) : EReal) * (v5 (ix2 k q) : EReal) := by
    rw [shapeCast_apply _ _ (ix3 r s q) (ix2 (⟨r.val * 1024 + s.val, hk⟩ : Fin 16384) q) (by
      rw [Shape.rowMajor_val_three, Shape.rowMajor_val_two]; rfl)]
    refine (Ideal.matmul_plain_apply none (shapeCast S16384x128 v3 shapeCasts_S16x1024x128_S16384x128) v5
      (constant (F := Ideal) S16384x128 .f32 0x00000000#32) (⟨r.val * 1024 + s.val, hk⟩ : Fin 16384) q).trans ?_
    show (Ideal.ofBits .f32 0x00000000#32 : EReal) + _ = _
    rw [Ideal.ofBits_zero_f32, zero_add]
    refine Finset.sum_congr rfl fun k _ => congrArg (· * (v5 (ix2 k q) : EReal)) ?_
    rw [shapeCast_apply _ _ (ix2 (⟨r.val * 1024 + s.val, hk⟩ : Fin 16384) k) (ix3 r s k) (by
      rw [Shape.rowMajor_val_three, Shape.rowMajor_val_two]; rfl)]
  have e2 : (broadcastTo S16x1024x128 (shapeCast S16x1024x1 v4 shapeCasts_S16x1024_S16x1024x1)
        broadcasts_S16x1024x1_S16x1024x128 (ix3 r s q) : EReal) = (v4 (ix2 r s) : EReal) := by
    rw [broadcastTo_apply _ _ (ix3 r s q) (ix3 r s (0 : Fin 1)) (fun b => by
      match b with | ⟨0, _⟩ => rfl | ⟨1, _⟩ => rfl | ⟨2, _⟩ => rfl),
      shapeCast_apply _ _ (ix3 r s (0 : Fin 1)) (ix2 r s) (by rw [Shape.rowMajor_val_three, Shape.rowMajor_val_two]; simp)]
  rw [e1, e2]

variable (m : (ℓ : Loc nD τ sig) → Buf (Elt Ideal) ℓ) (d : Dev nD)

/-- The masked product of whole arrays, by entries. -/
def productAll (x : FVec Ideal S16x4096x128 .f32) (a : FVec Ideal S16x4096 .f32) (w : FVec Ideal S128x128 .f32) :
    FVec Ideal S16x4096x128 .f32 := fun i =>
  ((∑ k : Fin 128, (x (ix3 (i 0) (i 1) k) : EReal) * (w (ix2 k (i 2)) : EReal)) * (a (ix2 (i 0) (i 1)) : EReal) : EReal)

/-- Where an entry of a block of the product lies in the whole array. -/
theorem emb_product (t : Fin cfg0.N) (r : Fin 16) (s : Fin 1024) (q : Fin 128) :
    (((cfg0.win 3).blk t).view.emb (ix3 r s q) : S16x4096x128.Idx) = ix3 r (rowAt t s) q := by
  blk_ext [rowAt, (index_eq t).2.2.2]

/-- The product array after the kernel is the masked product. -/
theorem RES_eq : RES m d = productAll (m (xLoc d)) (m (maskLoc d)) (m (wLoc d)) := by
  refine (data m 0 d).arrAt_eq_of_covers 3 (productAll (m (xLoc d)) (m (maskLoc d)) (m (wLoc d))) (by decide +kernel) fun t hf y => ?_
  blk_simp
  rw [after_3]
  obtain ⟨r, s, q, rfl⟩ : ∃ (r : Fin 16) (s : Fin 1024) (q : Fin 128), y = ix3 r s q := ⟨y 0, y 1, y 2, by
    funext b; match b with | ⟨0, _⟩ => rfl | ⟨1, _⟩ => rfl | ⟨2, _⟩ => rfl⟩
  refine Eq.trans ?_ (congrArg (productAll (m (xLoc d)) (m (maskLoc d)) (m (wLoc d))) (emb_product t r s q).symm)
  refine (pay2_apply _ _ _ r s q).trans ?_
  unfold productAll
  rw [blockAt_mask]
  refine congrArg (· * (m (maskLoc d) (ix2 r (rowAt t s)) : EReal)) (Finset.sum_congr rfl fun k _ => ?_)
  rw [blockAt_x, blockAt_w]

end Cert.Proof.Ker
-- ==== Proof.Sorting.lean ====
/- The stable sort of sixteen positions by an integer key: when it is the sort along a permutation, and the two sorts of
   the reference, by negated length and by the permutation the first sort gave. -/
module

public import proofs.«01_k».proof.Defs
public import proofs.«01_k».proof.Proof.Gen.ReferenceIdeal
public import proofs.«01_k».proof.Proof.Rank
public import Idealize.ShloMosaic.Lib.SortFacts
public import Idealize.ShloMosaic.Lib.Pipeline.ValueKit
public import Mathlib.Data.Fintype.EquivFin
public import Mathlib.Order.WellFounded

@[expose] public section

noncomputable section

namespace Cert.Proof.Ref

open Cert.ReferenceIdeal Cert.ReferenceIdeal.Gen
open Idealize.ShloMosaic hiding ix0 ix1 ix2 ix3 ix4
open Idealize.ShloMosaic.ValueIdx Cert.Proof.Rank

/-- A stable sort asks only whether a later element comes before an earlier one, so two relations that agree on those
    questions sort a list alike. -/
theorem stableSort_of_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- A sort of positions whose answers, for a later position against an earlier one, are those of the places a
    permutation gives puts at each place the position the permutation sends there. -/
theorem sortedFrom_eq {n : ℕ} (f : Equiv.Perm (Fin n)) (R : Fin n → Fin n → Bool)
    (hR : ∀ a b : Fin n, a < b → (R b a = true ↔ f b < f a)) (k : Fin n) : sortedFrom R k = f.symm k := by
  have hpos : sortPositions n R = sortPositions n fun a b => decide (f a < f b) := by
    refine stableSort_of_pairwise R _ _ ((List.pairwise_lt_finRange n).imp fun {a b} hab => ?_)
    rw [Bool.eq_iff_iff, hR a b hab, decide_eq_true_iff]
  have hs : sortedFrom R = sortedFrom fun a b => decide (f a < f b) := by
    funext k
    unfold sortedFrom
    rw [List.get_of_eq hpos]
    rfl
  have hmono : StrictMono fun k => f (sortedFrom (fun a b => decide (f a < f b)) k) := by
    intro i j hij
    have h := sortedFrom_noInversion (fun a b => decide (f a < f b)) (fun a b => decide (f a < f b)) (fun a b h => by
        simp only [decide_eq_true_eq, decide_eq_false_iff_not, not_lt] at h ⊢; exact le_of_lt h)
      (fun _ _ h => h) (fun a b c h₁ h₂ => by
        simp only [decide_eq_false_iff_not, not_lt] at h₁ h₂ ⊢; exact le_trans h₂ h₁) i j hij
    simp only [decide_eq_false_iff_not, not_lt] at h
    exact lt_of_le_of_ne h fun e => absurd (sortedFrom_injective _ (f.injective e)) (ne_of_lt hij)
  have hid : (fun k => f (sortedFrom (fun a b => decide (f a < f b)) k)) = id := by
    refine (StrictMono.range_inj hmono strictMono_id).mp ?_
    rw [Set.range_id]
    exact Set.range_eq_univ.mpr (f.surjective.comp (sortedFrom_surjective _))
  rw [hs]
  exact (f.symm_apply_eq.mpr (congrFun hid k).symm).symm

/-- A sort of a vector that carries the positions, read at a place: the position that the stable sort puts there. -/
theorem sort2_iota {n : ℕ} (cmp : BitVec 32 × BitVec 32 → BitVec 32 × BitVec 32 → BitVec 1)
    (x : (⟨1, ![n]⟩ : Shape).Idx → BitVec 32) (j : Fin n) :
    (Host.sort2 ⟨1, ![n]⟩ 0 cmp x (iotaInDim ⟨1, ![n]⟩ 32 0)).2 (ix1 j) = BitVec.ofNat 32
      (sortedFrom (fun k k' : Fin n => cmp (x (ix1 k), BitVec.ofNat 32 k.val) (x (ix1 k'), BitVec.ofNat 32 k'.val) == 1#1) j).val := by
  have e : ∀ k : Fin n, (ix1 j : (⟨1, ![n]⟩ : Shape).Idx).along (0 : Fin 1) k = ix1 k := fun k => by
    funext a
    match a with
    | ⟨0, _⟩ => rfl
  unfold Host.sort2
  rw [dif_pos (show 0 < (⟨1, ![n]⟩ : Shape).rank from Nat.one_pos)]
  show iotaInDim ⟨1, ![n]⟩ 32 0 ((ix1 j : (⟨1, ![n]⟩ : Shape).Idx).along (0 : Fin 1) (sortedFrom (fun k k' : Fin n =>
    cmp (x ((ix1 j : (⟨1, ![n]⟩ : Shape).Idx).along (0 : Fin 1) k), iotaInDim ⟨1, ![n]⟩ 32 0 ((ix1 j : (⟨1, ![n]⟩ : Shape).Idx).along (0 : Fin 1) k))
      (x ((ix1 j : (⟨1, ![n]⟩ : Shape).Idx).along (0 : Fin 1) k'), iotaInDim ⟨1, ![n]⟩ 32 0 ((ix1 j : (⟨1, ![n]⟩ : Shape).Idx).along (0 : Fin 1) k')) == 1#1) j)) = _
  simp only [e]
  rfl

/-- The reference's `argsort`: the positions, sorted stably by their words from small to large. -/
def argsort (x : IVec S16 32) : IVec S16 32 :=
  (Host.sort2 S16 0 comparator_i32_i32_d0 x (iotaInDim S16 32 0)).2

/-- `argsort` read at a place: the position that the stable sort puts there. -/
theorem argsort_apply (x : IVec S16 32) (j : Fin 16) :
    argsort x (ix1 j) = BitVec.ofNat 32
      (sortedFrom (fun k k' : Fin 16 => IntOp.cmpi .slt (x (ix1 k)) (x (ix1 k')) == 1#1) j).val := by
  exact sort2_iota comparator_i32_i32_d0 x j

/-- The signed comparison bit is one exactly when the words' values are in that order. -/
theorem slt_bit (a b : BitVec 32) : (IntOp.cmpi .slt a b == 1#1) = true ↔ a.toInt < b.toInt := by
  unfold IntOp.cmpi
  simp only [BitVec.slt, beq_iff_eq]
  by_cases h : a.toInt < b.toInt <;> simp [h]

/-- The negation of a small word counts down. -/
theorem neg_toInt {n : ℕ} (h : n ≤ 4096) : (-(BitVec.ofNat 32 n)).toInt = -(n : ℤ) := by
  rw [BitVec.toInt_neg, small_toInt (by omega), Int.bmod_def]
  split <;> omega

variable (L : Fin 16 → BitVec 32)

/-- For a later position against an earlier one, the rank order is the order of the words from large to small. -/
theorem place_lt_iff {a b : Fin 16} (hab : a < b) : place L b < place L a ↔ (L a).toInt < (L b).toInt := by
  constructor
  · intro h
    by_contra hn
    have hb : Before L a b := by
      rcases lt_or_eq_of_le (not_lt.mp hn) with h' | h'
      · exact .inl h'
      · exact .inr ⟨BitVec.eq_of_toInt_eq h'.symm, hab⟩
    have := rank_lt_of_before L hb
    rw [Fin.lt_def, place_val, place_val] at h
    omega
  · intro h
    rw [Fin.lt_def, place_val, place_val]
    exact rank_lt_of_before L (.inl h)

/-- Sorted by negated lengths: the position of each rank. -/
theorem argsort_lengths (hL : ∀ i, ∃ n : ℕ, n ≤ 4096 ∧ L i = BitVec.ofNat 32 n) (x : IVec S16 32)
    (hx : ∀ i, x (ix1 i) = -(L i)) (j : Fin 16) :
    argsort x (ix1 j) = BitVec.ofNat 32 (order L j).val := by
  rw [argsort_apply]
  refine congrArg (fun z : Fin 16 => BitVec.ofNat 32 z.val) (sortedFrom_eq (place L) _ (fun a b hab => ?_) j)
  rw [place_lt_iff L hab]
  refine (slt_bit _ _).trans ?_
  rw [hx, hx]
  obtain ⟨n, hn, en⟩ := hL a
  obtain ⟨k, hk, ek⟩ := hL b
  rw [en, ek, neg_toInt hn, neg_toInt hk, small_toInt (by omega), small_toInt (by omega)]
  omega

/-- Sorted by the positions of the ranks: the rank of each position. -/
theorem argsort_order (x : IVec S16 32) (hx : ∀ j, x (ix1 j) = BitVec.ofNat 32 (order L j).val) (i : Fin 16) :
    argsort x (ix1 i) = BitVec.ofNat 32 (place L i).val := by
  rw [argsort_apply]
  refine congrArg (fun z : Fin 16 => BitVec.ofNat 32 z.val) (sortedFrom_eq (place L).symm _ (fun a b _ => ?_) i)
  refine (slt_bit _ _).trans ?_
  rw [hx, hx, small_toInt (by omega), small_toInt (by omega), Nat.cast_lt]
  exact Iff.rfl

end Cert.Proof.Ref
-- ==== Proof.Takes.lean ====
/- The reference's reads by index, at an entry: the leading-axis take of a rank-three array and the take of one row per
   batch and column. -/
module

public import proofs.«01_k».proof.Defs
public import proofs.«01_k».proof.Proof.Gen.ReferenceIdeal
public import proofs.«01_k».proof.Proof.Rank
public import Idealize.ShloMosaic.Lib.Routing.OpsSet
public import Idealize.ShloMosaic.Lib.Pipeline.ValueKit

@[expose] public section

noncomputable section

namespace Cert.Proof.Ref

open Idealize.ShloMosaic hiding ix0 ix1 ix2 ix3 ix4
open Idealize.ShloMosaic.ValueIdx Cert.Proof.Rank

variable {α : Type}

/-- The dimension numbers of a take of whole blocks along the leading axis of a rank-three array. -/
abbrev blockDims (N A B n : ℕ)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Block `c` of the take is the operand's block that the index word names. -/
theorem gather_block {N A B n : ℕ} (hN : N < 2 ^ 31)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (p : Fin A) (q : Fin B) (b : Fin N)
    (hb : idx (ix2 c (0 : Fin 1)) = BitVec.ofNat 32 b.val) :
    Host.gather (blockDims N A B n wf) x idx (ix3 c p q) = x (ix3 b p q) := by
  have hlt := b.isLt
  unfold Host.gather
  refine congrArg x (funext fun a => Fin.ext ?_)
  match a with
  | ⟨0, _⟩ =>
    show (blockDims N A B n wf).start (ix3 c p q) idx 0 + (blockDims N A B n wf).batchCoord (ix3 c p q) 0
      + (blockDims N A B n wf).offCoord (ix3 c p q) 0 = b.val
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ (blockDims N A B n wf).startIndexMap from List.mem_singleton.mpr rfl)]
    have hsi : (blockDims N A B n wf).siIdx (ix3 c p q) ⟨List.idxOf (0 : Fin 3) (blockDims N A B n wf).startIndexMap,
        List.idxOf_lt_length_iff.2 (List.mem_singleton.mpr rfl)⟩ = ix2 c (0 : Fin 1) := by
      funext k; refine Fin.ext ?_
      match k with
      | ⟨0, _⟩ => rfl
      | ⟨1, _⟩ => rfl
    rw [hsi, hb, small_toInt (by omega)]
    show min ((b.val : ℤ)).toNat (N - 1) + 0 + 0 = b.val
    omega
  | ⟨1, _⟩ =>
    show (blockDims N A B n wf).start (ix3 c p q) idx 1 + (blockDims N A B n wf).batchCoord (ix3 c p q) 1
      + (blockDims N A B n wf).offCoord (ix3 c p q) 1 = p.val
    rw [GatherDims.batchCoord_eq_zero _ _ _ List.not_mem_nil]
    unfold GatherDims.start
    rw [dif_neg (show (1 : Fin 3) ∉ (blockDims N A B n wf).startIndexMap by simp)]
    have h : (1 : Fin 3) ∈ (blockDims N A B n wf).sKept := (GatherDims.mem_sKept _ _).mpr ⟨by simp, by simp⟩
    unfold GatherDims.offCoord
    rw [dif_pos h, Nat.zero_add]
    rfl
  | ⟨2, _⟩ =>
    show (blockDims N A B n wf).start (ix3 c p q) idx 2 + (blockDims N A B n wf).batchCoord (ix3 c p q) 2
      + (blockDims N A B n wf).offCoord (ix3 c p q) 2 = q.val
    rw [GatherDims.batchCoord_eq_zero _ _ _ List.not_mem_nil]
    unfold GatherDims.start
    rw [dif_neg (show (2 : Fin 3) ∉ (blockDims N A B n wf).startIndexMap by simp)]
    have h : (2 : Fin 3) ∈ (blockDims N A B n wf).sKept := (GatherDims.mem_sKept _ _).mpr ⟨by simp, by simp⟩
    unfold GatherDims.offCoord
    rw [dif_pos h, Nat.zero_add]
    rfl

/-- The dimension numbers of a take of one row index per batch and column: the leading and the last axis are carried
    along with the index. -/
abbrev stepDims (N A B : ℕ)
    (wf : GatherDims.WF ⟨3, ![N, A, B]⟩ ⟨4, ![N, 1, B, 1]⟩ ⟨3, ![N, 1, B]⟩ [] [1] [0, 2] [1] [0, 2] 3 ![1, 1, 1]) :
    GatherDims ⟨3, ![N, A, B]⟩ ⟨4, ![N, 1, B, 1]⟩ ⟨3, ![N, 1, B]⟩ where
  offsetDims := []
  collapsedSliceDims := [1]
  operandBatchingDims := [0, 2]
  startIndicesBatchingDims := [0, 2]
  startIndexMap := [1]
  indexVectorDim := 3
  sliceSizes := ![1, 1, 1]
  wf := wf

/-- Entry `(c, 0, q)` of that take is the operand's entry of batch `c` and column `q` in the row the index word names. -/
theorem gather_step {N A B : ℕ} (hA : A < 2 ^ 31)
    (wf : GatherDims.WF ⟨3, ![N, A, B]⟩ ⟨4, ![N, 1, B, 1]⟩ ⟨3, ![N, 1, B]⟩ [] [1] [0, 2] [1] [0, 2] 3 ![1, 1, 1])
    (x : (⟨3, ![N, A, B]⟩ : Shape).Idx → α) (idx : IVec ⟨4, ![N, 1, B, 1]⟩ 32) (c : Fin N) (q : Fin B) (b : Fin A)
    (hb : idx (ix4 c (0 : Fin 1) q (0 : Fin 1)) = BitVec.ofNat 32 b.val) :
    Host.gather (stepDims N A B wf) x idx (ix3 c (0 : Fin 1) q) = x (ix3 c b q) := by
  have hlt := b.isLt
  unfold Host.gather
  refine congrArg x (funext fun a => Fin.ext ?_)
  match a with
  | ⟨0, _⟩ =>
    show (stepDims N A B wf).start (ix3 c (0 : Fin 1) q) idx 0 + (stepDims N A B wf).batchCoord (ix3 c (0 : Fin 1) q) 0
      + (stepDims N A B wf).offCoord (ix3 c (0 : Fin 1) q) 0 = c.val
    rw [GatherDims.offCoord_eq_zero _ _ _ (fun h => ((GatherDims.mem_sKept _ _).mp h).2 (by simp))]
    unfold GatherDims.start GatherDims.batchCoord
    rw [dif_neg (show (0 : Fin 3) ∉ (stepDims N A B wf).startIndexMap by simp),
      dif_pos (show (0 : Fin 3) ∈ (stepDims N A B wf).operandBatchingDims by simp), Nat.zero_add, Nat.add_zero]
    rfl
  | ⟨1, _⟩ =>
    show (stepDims N A B wf).start (ix3 c (0 : Fin 1) q) idx 1 + (stepDims N A B wf).batchCoord (ix3 c (0 : Fin 1) q) 1
      + (stepDims N A B wf).offCoord (ix3 c (0 : Fin 1) q) 1 = b.val
    rw [GatherDims.batchCoord_eq_zero _ _ _ (by simp),
      GatherDims.offCoord_eq_zero _ _ _ (fun h => ((GatherDims.mem_sKept _ _).mp h).1 (List.mem_singleton.mpr rfl))]
    unfold GatherDims.start
    rw [dif_pos (show (1 : Fin 3) ∈ (stepDims N A B wf).startIndexMap from List.mem_singleton.mpr rfl)]
    have hsi : (stepDims N A B wf).siIdx (ix3 c (0 : Fin 1) q) ⟨List.idxOf (1 : Fin 3) (stepDims N A B wf).startIndexMap,
        List.idxOf_lt_length_iff.2 (List.mem_singleton.mpr rfl)⟩ = ix4 c (0 : Fin 1) q (0 : Fin 1) := by
      funext k; refine Fin.ext ?_
      match k with
      | ⟨0, _⟩ => rfl
      | ⟨1, _⟩ => rfl
      | ⟨2, _⟩ => rfl
      | ⟨3, _⟩ => rfl
    rw [hsi, hb, small_toInt (by omega)]
    show min ((b.val : ℤ)).toNat (A - 1) + 0 + 0 = b.val
    omega
  | ⟨2, _⟩ =>
    show (stepDims N A B wf).start (ix3 c (0 : Fin 1) q) idx 2 + (stepDims N A B wf).batchCoord (ix3 c (0 : Fin 1) q) 2
      + (stepDims N A B wf).offCoord (ix3 c (0 : Fin 1) q) 2 = q.val
    rw [GatherDims.offCoord_eq_zero _ _ _ (fun h => ((GatherDims.mem_sKept _ _).mp h).2 (by simp))]
    unfold GatherDims.start GatherDims.batchCoord
    rw [dif_neg (show (2 : Fin 3) ∉ (stepDims N A B wf).startIndexMap by simp),
      dif_pos (show (2 : Fin 3) ∈ (stepDims N A B wf).operandBatchingDims by simp), Nat.zero_add, Nat.add_zero]
    rfl

end Cert.Proof.Ref
-- ==== Proof.RefValues.lean ====
/- The reference's four results laid out in named steps: the lengths, the sort, the takes along it, the masked product,
   the last rows and the return to the given order. -/
module

public import proofs.«01_k».proof.Defs
public import proofs.«01_k».proof.Proof.Gen.ReferenceIdeal.Run
public import proofs.«01_k».proof.Proof.Sorting
public import proofs.«01_k».proof.Proof.Takes

@[expose] public section

noncomputable section

namespace Cert.Proof.Ref

open Cert.ReferenceIdeal Cert.ReferenceIdeal.Gen
open Idealize.ShloMosaic hiding ix0 ix1 ix2 ix3 ix4
open Idealize.ShloMosaic.ValueIdx Cert.Proof.Rank

variable {F : FTy → Type} [FloatOps F]

/-- Each row's length: its mask entries summed and read as an integer. -/
def lengths (a : FVec F S16x4096 .f32) : IVec S16 32 :=
  fptosi 32 (Host.reduceAdd a (constant S_ .f32 0x00000000#32) reducesTo_S16x4096_S16_d1 h_S_)

/-- How many rows are not empty: the mask's first column summed and read as an integer. -/
def valid (a : FVec F S16x4096 .f32) : IVec S_ 32 :=
  fptosi 32 (Host.reduceAdd (shapeCast S16 (extractStridedSlice S16x1 ![0, 0] a slices_S16x4096_S16x1_0_0) shapeCasts_S16x1_S16)
    (constant S_ .f32 0x00000000#32) reducesTo_S16_S_d0 h_S_)

/-- The sort's order: the positions from the longest row to the shortest. -/
def perm (a : FVec F S16x4096 .f32) : IVec S16 32 := argsort (negi (lengths a))

/-- An index vector as a column, a negative index counted from the end. -/
def column (p : IVec S16 32) : IVec S16x1 32 :=
  broadcastInDim S16x1 ![0] bcast_S16_S16x1_0
    (select (cmpi .slt p (broadcastInDim S16 ![] bcast_S_S16 (constantI S_ 32 0#32)))
      (addi p (broadcastInDim S16 ![] bcast_S_S16 (constantI S_ 32 16#32))) p)

/-- Which indices lie within the sixteen rows. -/
def inside (p : IVec S16 32) : IVec S16 1 :=
  Host.reduce IntOp.andi
    (andi (cmpi .sge (column p) (broadcastInDim S16x1 ![] bcast_S_S16x1 (constantI S_ 32 0#32)))
      (cmpi .sle (column p) (broadcastInDim S16x1 ![0, 1] bcast_S1x1_S16x1_0_1 (broadcastInDim S1x1 ![1] bcast_S1_S1x1_1 (constantI S1 32 15#32)))))
    (constantI S_ 1 1#1) reducesTo_S16x1_S16_d1 h_S_

/-- The take of the rows of a rank-three array along an index vector. -/
def takeBlocks (x : FVec F S16x4096x128 .f32) (p : IVec S16 32) : FVec F S16x4096x128 .f32 :=
  select (broadcastInDim S16x4096x128 ![0] bcast_S16_S16x4096x128_0 (inside p))
    (Host.gather gather_S16x4096x128_S16x1_S16x4096x128_12_0_n_n_0_1_14096128 x (column p))
    (broadcastInDim S16x4096x128 ![] bcast_S_S16x4096x128 (constant S_ .f32 0x7FC00000#32))

/-- The take of the rows of a matrix along an index vector. -/
def takeRows (x : FVec F S16x4096 .f32) (p : IVec S16 32) : FVec F S16x4096 .f32 :=
  select (broadcastInDim S16x4096 ![0] bcast_S16_S16x4096_0 (inside p))
    (Host.gather gather_S16x4096_S16x1_S16x4096_1_0_n_n_0_1_14096 x (column p))
    (broadcastInDim S16x4096 ![] bcast_S_S16x4096 (constant S_ .f32 0x7FC00000#32))

/-- The take of the words of a vector along an index vector. -/
def takeWords (x : IVec S16 32) (p : IVec S16 32) : IVec S16 32 :=
  select (inside p) (Host.gather gather_S16_S16x1_S16_n_0_n_n_0_1_1 x (column p))
    (broadcastInDim S16 ![] bcast_S_S16 (constantI S_ 32 2147483648#32))

/-- The masked product of the sorted rows. -/
def product (x : FVec F S16x4096x128 .f32) (a : FVec F S16x4096 .f32) (w : FVec F S128x128 .f32) : FVec F S16x4096x128 .f32 :=
  mulf (Host.dotGeneral dot_S16x4096x128_S128x128_S16x4096x128_2_0_01_1_n_n none (takeBlocks x (perm a)) w)
    (broadcastInDim S16x4096x128 ![0, 1, 2] bcast_S16x4096x1_S16x4096x128_0_1_2
      (broadcastInDim S16x4096x1 ![0, 1] bcast_S16x4096_S16x4096x1_0_1 (takeRows a (perm a))))

/-- The last step of each sorted row, one per column. -/
def lastStep (a : FVec F S16x4096 .f32) : IVec S16x1x128 32 :=
  broadcastInDim S16x1x128 ![0, 1, 2] bcast_S16x1x1_S16x1x128_0_1_2
    (broadcastInDim S16x1x1 ![0] bcast_S16_S16x1x1_0
      (maxsi (subi (takeWords (lengths a) (perm a)) (broadcastInDim S16 ![] bcast_S_S16 (constantI S_ 32 1#32)))
        (broadcastInDim S16 ![] bcast_S_S16 (constantI S_ 32 0#32))))

/-- A step index as a column of one index per batch and column, a negative index counted from the end. -/
def stepColumn (p : IVec S16x1x128 32) : IVec S16x1x128x1 32 :=
  shapeCast S16x1x128x1
    (select (cmpi .slt p (broadcastInDim S16x1x128 ![] bcast_S_S16x1x128 (constantI S_ 32 0#32)))
      (addi p (broadcastInDim S16x1x128 ![] bcast_S_S16x1x128 (constantI S_ 32 4096#32))) p) shapeCasts_S16x1x128_S16x1x128x1

/-- Which step indices lie within the rows. -/
def stepInside (p : IVec S16x1x128 32) : IVec S16x1x128 1 :=
  Host.reduce IntOp.andi
    (andi (cmpi .sge (stepColumn p) (broadcastInDim S16x1x128x1 ![] bcast_S_S16x1x128x1 (constantI S_ 32 0#32)))
      (cmpi .sle (stepColumn p) (broadcastInDim S16x1x128x1 ![0, 1, 2, 3] bcast_S1x1x1x1_S16x1x128x1_0_1_2_3
        (broadcastInDim S1x1x1x1 ![3] bcast_S1_S1x1x1x1_3 (constantI S1 32 4095#32)))))
    (constantI S_ 1 1#1) reducesTo_S16x1x128x1_S16x1x128_d3 h_S_

/-- The take of one step of each row. -/
def takeStep (y : FVec F S16x4096x128 .f32) (p : IVec S16x1x128 32) : FVec F S16x1x128 .f32 :=
  select (stepInside p) (Host.gather gather_S16x4096x128_S16x1x128x1_S16x1x128_n_1_02_02_1_3_111 y (stepColumn p))
    (broadcastInDim S16x1x128 ![] bcast_S_S16x1x128 (constant S_ .f32 0x7FC00000#32))

/-- The final states: the product's row at each sorted row's last step. -/
def finals (x : FVec F S16x4096x128 .f32) (a : FVec F S16x4096 .f32) (w : FVec F S128x128 .f32) : FVec F S1x16x128 .f32 :=
  broadcastInDim S1x16x128 ![1, 2] bcast_S16x128_S1x16x128_1_2
    (shapeCast S16x128 (takeStep (product x a w) (lastStep a)) shapeCasts_S16x1x128_S16x128)

/-- The product's rows in the order the rows were given. -/
def restored (x : FVec F S16x4096x128 .f32) (a : FVec F S16x4096 .f32) (w : FVec F S128x128 .f32) : FVec F S16x4096x128 .f32 :=
  takeBlocks (product x a w) (argsort (perm a))

variable (m : (ℓ : Loc nD τ sig) → Buf (Elt F) ℓ) (c : Dev nD)

/-- The restored rows as the reference's run states them. -/
theorem restored_eq : Value.res_main_v25 m c = restored (m ((c.tc : Thread nD τ).loc main_arg0))
    (m ((c.tc : Thread nD τ).loc main_arg1)) (m ((c.tc : Thread nD τ).loc main_arg2)) := rfl

/-- The final states as the reference's run states them. -/
theorem finals_eq : Value.res_main_v24 m c = finals (m ((c.tc : Thread nD τ).loc main_arg0))
    (m ((c.tc : Thread nD τ).loc main_arg1)) (m ((c.tc : Thread nD τ).loc main_arg2)) := rfl

end Cert.Proof.Ref
-- ==== Proof.RefTakes.lean ====
/- The reference's takes along an index vector of row numbers, read at an entry: the bounds test always passes, so each
   entry is the operand's entry in the row the index names. -/
module

public import proofs.«01_k».proof.Proof.RefValues
public import Idealize.ShloMosaic.Lib.ReduceAll

@[expose] public section

noncomputable section

namespace Cert.Proof.Ref

open Cert.ReferenceIdeal Cert.ReferenceIdeal.Gen
open Idealize.ShloMosaic hiding ix0 ix1 ix2 ix3 ix4
open Idealize.ShloMosaic.ValueIdx Cert.Proof.Rank

variable {F : FTy → Type} [FloatOps F]

/-- An index vector whose words are row numbers. -/
def Names (p : IVec S16 32) (b : Fin 16 → Fin 16) : Prop := ∀ j, p (ix1 j) = BitVec.ofNat 32 (b j).val

/-- A small word is not below zero. -/
theorem slt_zero {n : ℕ} (h : n < 2 ^ 31) : IntOp.cmpi .slt (BitVec.ofNat 32 n) 0#32 = 0#1 := by
  refine eq_zero_of_ne_one fun e => ?_
  have := (slt_bit (BitVec.ofNat 32 n) 0#32).mp (by rw [e]; rfl)
  rw [small_toInt h] at this
  simp at this
  omega

/-- A small word is at least zero. -/
theorem sge_zero {n : ℕ} (h : n < 2 ^ 31) : IntOp.cmpi .sge (BitVec.ofNat 32 n) 0#32 = 1#1 := by
  unfold IntOp.cmpi
  simp only [BitVec.sle]
  rw [small_toInt h]
  simp

/-- A small word is at most any larger one. -/
theorem sle_of_le {n k : ℕ} (h : n ≤ k) (hk : k < 2 ^ 31) : IntOp.cmpi .sle (BitVec.ofNat 32 n) (BitVec.ofNat 32 k) = 1#1 := by
  unfold IntOp.cmpi
  simp only [BitVec.sle]
  rw [small_toInt (lt_of_le_of_lt h hk), small_toInt hk]
  simp [h]

variable {p : IVec S16 32} {b : Fin 16 → Fin 16} (hp : Names p b)
include hp

/-- The index column holds the row numbers. -/
theorem column_apply (j : Fin 16) (z : Fin 1) : column p (ix2 j z) = BitVec.ofNat 32 (b j).val := by
  unfold column
  rw [broadcastInDim_apply _ _ _ (ix2 j z) (ix1 j) (fun a => by match a with | ⟨0, _⟩ => rfl)]
  show Scalar.select (IntOp.cmpi .slt (p (ix1 j)) 0#32) (IntOp.addi (p (ix1 j)) 16#32) (p (ix1 j)) = _
  rw [hp j, slt_zero (by omega)]
  rfl

/-- Every index passes the bounds test. -/
theorem inside_apply (j : S16.Idx) : inside p j = 1#1 := by
  unfold inside
  refine Host.reduce_andi_one _ _ _ _ j rfl fun i => ?_
  obtain ⟨r, z, rfl⟩ : ∃ (r : Fin 16) (z : Fin 1), i = ix2 r z := ⟨i 0, i 1, by
    funext a; match a with | ⟨0, _⟩ => rfl | ⟨1, _⟩ => rfl⟩
  show IntOp.andi (IntOp.cmpi .sge (column p (ix2 r z)) 0#32) (IntOp.cmpi .sle (column p (ix2 r z)) 15#32) = 1#1
  rw [column_apply hp, sge_zero (by omega), sle_of_le (k := 15) (by omega) (by omega)]
  rfl

/-- The take of blocks, at an entry. -/
theorem takeBlocks_apply (x : FVec F S16x4096x128 .f32) (j : Fin 16) (s : Fin 4096) (q : Fin 128) :
    takeBlocks x p (ix3 j s q) = x (ix3 (b j) s q) := by
  unfold takeBlocks
  show Scalar.select (broadcastInDim S16x4096x128 ![0] bcast_S16_S16x4096x128_0 (inside p) (ix3 j s q)) _ _ = _
  rw [broadcastInDim_apply _ _ _ (ix3 j s q) (ix1 j) (fun a => by match a with | ⟨0, _⟩ => rfl), inside_apply hp, select_one]
  exact gather_block (by norm_num) _ x _ j s q (b j) (column_apply hp j 0)

/-- The take of rows, at an entry. -/
theorem takeRows_apply (x : FVec F S16x4096 .f32) (j : Fin 16) (s : Fin 4096) :
    takeRows x p (ix2 j s) = x (ix2 (b j) s) := by
  unfold takeRows
  show Scalar.select (broadcastInDim S16x4096 ![0] bcast_S16_S16x4096_0 (inside p) (ix2 j s)) _ _ = _
  rw [broadcastInDim_apply _ _ _ (ix2 j s) (ix1 j) (fun a => by match a with | ⟨0, _⟩ => rfl), inside_apply hp, select_one]
  exact Routing.gather_row _ rfl rfl rfl rfl rfl x _ j s (b j) (column_apply hp j 0) (by norm_num)

/-- The take of words, at an entry. -/
theorem takeWords_apply (x : IVec S16 32) (j : Fin 16) : takeWords x p (ix1 j) = x (ix1 (b j)) := by
  unfold takeWords
  show Scalar.select (inside p (ix1 j)) _ _ = _
  rw [inside_apply hp, select_one]
  exact Routing.gather_take1 _ rfl rfl rfl rfl x _ j (b j) (column_apply hp j 0) (by norm_num)

end Cert.Proof.Ref
-- ==== Proof.RefResults.lean ====
/- The reference's four results at extended reals, on a mask of zeros and ones: every length as a count, the order of the
   ranks, the masked product by entries, its last rows, and its rows in the given order. -/
module

public import proofs.«01_k».proof.Proof.RefTakes
public import proofs.«01_k».proof.Proof.Counts
public import Idealize.ShloMosaic.Lib.IdealHost
public import Idealize.ShloMosaic.Lib.Pointwise.Reduce
public import Idealize.ShloMosaic.Lib.ValueLayoutCasts

@[expose] public section

noncomputable section

namespace Cert.Proof.Ref

open Cert.ReferenceIdeal Cert.ReferenceIdeal.Gen
open Idealize.ShloMosaic hiding ix0 ix1 ix2 ix3 ix4
open Idealize.ShloMosaic.ValueIdx Cert.Proof.Rank

/-- The masked product by entries: row times matrix, times the row's mask entry. -/
def masked (x : FVec Ideal S16x4096x128 .f32) (a : FVec Ideal S16x4096 .f32) (w : FVec Ideal S128x128 .f32)
    (r : Fin 16) (s : Fin 4096) (q : Fin 128) : EReal :=
  (∑ k : Fin 128, (x (ix3 r s k) : EReal) * (w (ix2 k q) : EReal)) * (a (ix2 r s) : EReal)

/-- The reference's contraction read at an entry. -/
theorem contract_apply (x : FVec Ideal S16x4096x128 .f32) (w : FVec Ideal S128x128 .f32) (r : Fin 16) (s : Fin 4096) (q : Fin 128) :
    (Host.dotGeneral dot_S16x4096x128_S128x128_S16x4096x128_2_0_01_1_n_n none x w (ix3 r s q) : EReal)
      = ∑ k : Fin 128, (x (ix3 r s k) : EReal) * (w (ix2 k q) : EReal) := by
  show FloatOps.dotGeneral _ none _ x w (ix3 r s q) = _
  rw [Ideal.dotGeneral_apply,
    ← Equiv.sum_comp (contrEquiv1 dot_S16x4096x128_S128x128_S16x4096x128_2_0_01_1_n_n 128 rfl rfl).symm]
  refine Finset.sum_congr rfl fun k _ => ?_
  have hk := contrEquiv1_symm_val dot_S16x4096x128_S128x128_S16x4096x128_2_0_01_1_n_n 128 rfl rfl k
  have hl : (dot_S16x4096x128_S128x128_S16x4096x128_2_0_01_1_n_n).lhsIdx (ix3 r s q)
      ((contrEquiv1 dot_S16x4096x128_S128x128_S16x4096x128_2_0_01_1_n_n 128 rfl rfl).symm k) = ix3 r s k := by
    funext b; apply Fin.ext
    match b with
    | ⟨0, _⟩ => rfl
    | ⟨1, _⟩ => rfl
    | ⟨2, _⟩ => exact hk
  have hr : (dot_S16x4096x128_S128x128_S16x4096x128_2_0_01_1_n_n).rhsIdx (ix3 r s q)
      ((contrEquiv1 dot_S16x4096x128_S128x128_S16x4096x128_2_0_01_1_n_n 128 rfl rfl).symm k) = ix2 k q := by
    funext b; apply Fin.ext
    match b with
    | ⟨0, _⟩ => exact hk
    | ⟨1, _⟩ => rfl
  rw [hl, hr]

variable (a : FVec Ideal S16x4096 .f32) (n : Fin 16 → ℕ → ℕ)
  (hn : ∀ r (s : Fin 4096), (a (ix2 r s) : EReal) = ((n r s.val : ℝ) : EReal)) (hb : ∀ r x, n r x ≤ 1)

/-- A row's count. -/
def count (n : Fin 16 → ℕ → ℕ) (r : Fin 16) : ℕ := ∑ x ∈ Finset.range 4096, n r x

include hb in
theorem count_le (r : Fin 16) : count n r ≤ 4096 := by
  refine (Finset.sum_le_card_nsmul _ _ 1 fun x _ => hb r x).trans ?_
  rw [Finset.card_range, smul_eq_mul, mul_one]

/-- The lengths as words. -/
def words (n : Fin 16 → ℕ → ℕ) (r : Fin 16) : BitVec 32 := BitVec.ofNat 32 (count n r)

include hn hb in
/-- Each length is its row's count. -/
theorem lengths_apply (r : Fin 16) : lengths a (ix1 r) = words n r := by
  unfold lengths words
  show Ideal.fptosi 32 (Host.reduceAdd a (constant (F := Ideal) S_ .f32 0x00000000#32) reducesTo_S16x4096_S16_d1 h_S_ (ix1 r)) = _
  rw [hostReduceAdd_apply, Ideal.hostReduceAdd_r2_a1]
  have e : (constant (F := Ideal) S_ .f32 0x00000000#32 (Shape.Idx.first h_S_) : EReal) + ∑ k : Fin 4096, (a (ix2 r k) : EReal)
      = ((count n r : ℝ) : EReal) := by
    show (Ideal.ofBits .f32 0x00000000#32 : EReal) + _ = _
    rw [Ideal.ofBits_zero_f32, zero_add, Finset.sum_congr rfl fun k _ => hn r k, count, Finset.sum_range, Nat.cast_sum, Ker.coe_sum]
  refine (congrArg (Ideal.fptosi 32) e).trans ?_
  have h := count_le n hb r
  exact Ker.naturalReals.toInt _ (lt_of_le_of_lt h (by norm_num))

include hn hb in
/-- The number of rows whose first entry is one. -/
theorem valid_apply (j : S_.Idx) : valid a j = BitVec.ofNat 32 (∑ r : Fin 16, n r 0) := by
  unfold valid
  show Ideal.fptosi 32 (Host.reduceAdd _ (constant (F := Ideal) S_ .f32 0x00000000#32) reducesTo_S16_S_d0 h_S_ j) = _
  rw [hostReduceAdd_apply, Ideal.hostReduceAdd_r1_a0]
  have e1 : ∀ r : Fin 16, (shapeCast S16 (extractStridedSlice S16x1 ![0, 0] a slices_S16x4096_S16x1_0_0) shapeCasts_S16x1_S16 (ix1 r) : EReal)
      = ((n r 0 : ℝ) : EReal) := fun r => by
    rw [shapeCast_apply _ _ (ix1 r) (ix2 r (0 : Fin 1)) (by
      rw [Shape.rowMajor_val_two, Shape.rowMajor_val_one]; simp)]
    refine Eq.trans ?_ (hn r ⟨0, by norm_num⟩)
    refine congrArg a (funext fun b => Fin.ext ?_)
    match b with
    | ⟨0, _⟩ => show 0 + r.val = r.val; omega
    | ⟨1, _⟩ => rfl
  have e : (constant (F := Ideal) S_ .f32 0x00000000#32 (Shape.Idx.first h_S_) : EReal)
      + ∑ r : Fin 16, (shapeCast S16 (extractStridedSlice S16x1 ![0, 0] a slices_S16x4096_S16x1_0_0) shapeCasts_S16x1_S16 (ix1 r) : EReal)
      = (((∑ r : Fin 16, n r 0 : ℕ) : ℝ) : EReal) := by
    show (Ideal.ofBits .f32 0x00000000#32 : EReal) + _ = _
    rw [Ideal.ofBits_zero_f32, zero_add, Finset.sum_congr rfl fun r _ => e1 r, Nat.cast_sum, Ker.coe_sum]
  refine (congrArg (Ideal.fptosi 32) e).trans ?_
  have h : ∑ r : Fin 16, n r 0 ≤ 16 := by
    refine (Finset.sum_le_card_nsmul _ _ 1 fun r _ => hb r 0).trans ?_
    simp
  exact Ker.naturalReals.toInt _ (lt_of_le_of_lt h (by norm_num))

include hn hb in
/-- The sort's order names the position of each rank. -/
theorem perm_names : Names (perm a) (order (words n)) := fun j =>
  argsort_lengths (words n) (fun i => ⟨count n i, count_le n hb i, rfl⟩) (negi (lengths a))
    (fun i => congrArg (fun z : BitVec 32 => -z) (lengths_apply a n hn hb i)) j

include hn hb in
/-- Its inverse names the rank of each position. -/
theorem back_names : Names (argsort (perm a)) (place (words n)) := fun i =>
  argsort_order (words n) (perm a) (perm_names a n hn hb) i

variable (x : FVec Ideal S16x4096x128 .f32) (w : FVec Ideal S128x128 .f32)

include hn hb in
/-- The product of the sorted rows is the masked product of the rows the order names. -/
theorem product_apply (j : Fin 16) (s : Fin 4096) (q : Fin 128) :
    (product x a w (ix3 j s q) : EReal) = masked x a w (order (words n) j) s q := by
  unfold product masked
  show (Host.dotGeneral dot_S16x4096x128_S128x128_S16x4096x128_2_0_01_1_n_n none (takeBlocks x (perm a)) w (ix3 j s q) : EReal)
    * (broadcastInDim S16x4096x128 ![0, 1, 2] bcast_S16x4096x1_S16x4096x128_0_1_2
      (broadcastInDim S16x4096x1 ![0, 1] bcast_S16x4096_S16x4096x1_0_1 (takeRows a (perm a))) (ix3 j s q) : EReal) = _
  rw [contract_apply, broadcastInDim_apply _ _ _ (ix3 j s q) (ix3 j s (0 : Fin 1)) (fun b => by
      match b with | ⟨0, _⟩ => rfl | ⟨1, _⟩ => rfl | ⟨2, _⟩ => rfl),
    broadcastInDim_apply _ _ _ (ix3 j s (0 : Fin 1)) (ix2 j s) (fun b => by
      match b with | ⟨0, _⟩ => rfl | ⟨1, _⟩ => rfl), takeRows_apply (perm_names a n hn hb)]
  refine congrArg (· * (a (ix2 (order (words n) j) s) : EReal)) (Finset.sum_congr rfl fun k _ => ?_)
  exact congrArg (· * (w (ix2 k q) : EReal)) (takeBlocks_apply (perm_names a n hn hb) x j s k)

include hn hb in
/-- The restored rows are the masked product of the rows as given. -/
theorem restored_apply (r : Fin 16) (s : Fin 4096) (q : Fin 128) :
    (restored x a w (ix3 r s q) : EReal) = masked x a w r s q := by
  unfold restored
  rw [takeBlocks_apply (back_names a n hn hb), product_apply a n hn hb, order_place]

end Cert.Proof.Ref
-- ==== Proof.RefFinals.lean ====
/- The reference's final states at extended reals: the masked product at each sorted row's last step. -/
module

public import proofs.«01_k».proof.Proof.RefResults
public import proofs.«01_k».proof.Proof.ScValues

@[expose] public section

noncomputable section

namespace Cert.Proof.Ref

open Cert.ReferenceIdeal Cert.ReferenceIdeal.Gen
open Idealize.ShloMosaic hiding ix0 ix1 ix2 ix3 ix4
open Idealize.ShloMosaic.ValueIdx Cert.Proof.Rank

section Step

variable {p : IVec S16x1x128 32} {b : Fin 16 → Fin 4096}
  (hp : ∀ (j : Fin 16) (z : Fin 1) (q : Fin 128), p (ix3 j z q) = BitVec.ofNat 32 (b j).val)
include hp

/-- The step column holds the step numbers. -/
theorem stepColumn_apply (j : Fin 16) (z : Fin 1) (q : Fin 128) (z' : Fin 1) :
    stepColumn p (ix4 j z q z') = BitVec.ofNat 32 (b j).val := by
  obtain rfl : z = 0 := Subsingleton.elim _ _
  obtain rfl : z' = 0 := Subsingleton.elim _ _
  unfold stepColumn
  rw [shapeCast_apply _ _ (ix4 j (0 : Fin 1) q (0 : Fin 1)) (ix3 j (0 : Fin 1) q) (by
    rw [Shape.rowMajor_val_three, Shape.rowMajor_val_four]; simp)]
  show Scalar.select (IntOp.cmpi .slt (p (ix3 j (0 : Fin 1) q)) 0#32) (IntOp.addi (p (ix3 j (0 : Fin 1) q)) 4096#32) (p (ix3 j (0 : Fin 1) q)) = _
  rw [hp, slt_zero (by omega)]
  rfl

/-- Every step number passes the bounds test. -/
theorem stepInside_apply (j : S16x1x128.Idx) : stepInside p j = 1#1 := by
  unfold stepInside
  refine Host.reduce_andi_one _ _ _ _ j rfl fun i => ?_
  obtain ⟨r, z, q, z', rfl⟩ : ∃ (r : Fin 16) (z : Fin 1) (q : Fin 128) (z' : Fin 1), i = ix4 r z q z' := ⟨i 0, i 1, i 2, i 3, by
    funext a; match a with | ⟨0, _⟩ => rfl | ⟨1, _⟩ => rfl | ⟨2, _⟩ => rfl | ⟨3, _⟩ => rfl⟩
  show IntOp.andi (IntOp.cmpi .sge (stepColumn p (ix4 r z q z')) 0#32) (IntOp.cmpi .sle (stepColumn p (ix4 r z q z')) 4095#32) = 1#1
  have hlt := (b r).isLt
  rw [stepColumn_apply hp, sge_zero (by omega), sle_of_le (k := 4095) (by omega) (by norm_num)]
  rfl

/-- The take of steps, at an entry. -/
theorem takeStep_apply (y : FVec Ideal S16x4096x128 .f32) (j : Fin 16) (q : Fin 128) :
    takeStep y p (ix3 j (0 : Fin 1) q) = y (ix3 j (b j) q) := by
  unfold takeStep
  show Scalar.select (stepInside p (ix3 j (0 : Fin 1) q)) _ _ = _
  rw [stepInside_apply hp, select_one]
  exact gather_step (by norm_num) _ y _ j q (b j) (stepColumn_apply hp j 0 q 0)

end Step

variable (a : FVec Ideal S16x4096 .f32) (n : Fin 16 → ℕ → ℕ)
  (hn : ∀ r (s : Fin 4096), (a (ix2 r s) : EReal) = ((n r s.val : ℝ) : EReal)) (hb : ∀ r x, n r x ≤ 1)
  (x : FVec Ideal S16x4096x128 .f32) (w : FVec Ideal S128x128 .f32)

/-- The last row of a count, as a word. -/
theorem lastRow_word {w : BitVec 32} (h : w.toNat ≤ 4096) : Ker.lastWord w = BitVec.ofNat 32 (Ker.lastRow w).val := by
  rw [Ker.lastRow_val h]
  exact (BitVec.ofNat_toNat 32 (Ker.lastWord w)).symm

include hb in
theorem words_toNat (r : Fin 16) : (words n r).toNat ≤ 4096 := by
  have h := count_le n hb r
  unfold words
  generalize count n r = k at h
  rw [BitVec.toNat_ofNat]
  exact (Nat.mod_le _ _).trans h

include hn hb in
/-- The last step of each sorted row is one less than its length, and 0 for a length of 0. -/
theorem lastStep_apply (j : Fin 16) (z : Fin 1) (q : Fin 128) :
    lastStep a (ix3 j z q) = BitVec.ofNat 32 (Ker.lastRow (words n (order (words n) j))).val := by
  rw [← lastRow_word (words_toNat n hb _)]
  unfold lastStep
  rw [broadcastInDim_apply _ _ _ (ix3 j z q) (ix3 j (0 : Fin 1) (0 : Fin 1)) (fun b => by
      match b with | ⟨0, _⟩ => rfl | ⟨1, _⟩ => rfl | ⟨2, _⟩ => rfl),
    broadcastInDim_apply _ _ _ (ix3 j (0 : Fin 1) (0 : Fin 1)) (ix1 j) (fun b => by match b with | ⟨0, _⟩ => rfl)]
  show IntOp.maxsi (IntOp.subi (takeWords (lengths a) (perm a) (ix1 j)) 1#32) 0#32 = _
  rw [takeWords_apply (perm_names a n hn hb), lengths_apply a n hn hb]
  rfl

include hn hb in
/-- The final state of each sorted row is the masked product's row at its last step. -/
theorem finals_apply (z : Fin 1) (j : Fin 16) (q : Fin 128) :
    (finals x a w (ix3 z j q) : EReal)
      = masked x a w (order (words n) j) (Ker.lastRow (words n (order (words n) j))) q := by
  unfold finals
  rw [broadcastInDim_apply _ _ _ (ix3 z j q) (ix2 j q) (fun b => by
      match b with | ⟨0, _⟩ => rfl | ⟨1, _⟩ => rfl),
    shapeCast_apply _ _ (ix2 j q) (ix3 j (0 : Fin 1) q) (by rw [Shape.rowMajor_val_three, Shape.rowMajor_val_two]; simp),
    takeStep_apply (b := fun j => Ker.lastRow (words n (order (words n) j))) (lastStep_apply a n hn hb)]
  exact product_apply a n hn hb x w j _ q

end Cert.Proof.Ref
-- ==== Proof.Counting.lean ====
/- The packed word's two halves, and how many lengths are positive when every row of the mask is a prefix: as many as have
   a first entry of one. -/
module

public import proofs.«01_k».proof.Proof.RefResults

@[expose] public section

noncomputable section

namespace Cert.Proof.Ref

open Idealize.ShloMosaic hiding ix0 ix1 ix2 ix3 ix4
open Cert.Proof.Rank

/-- A number below 65536 beside a multiple of 65536, as one word. -/
theorem packed_word (r p : ℕ) :
    Scalar.addi (Scalar.muli (BitVec.ofNat 32 r) 65536#32) (BitVec.ofNat 32 p) = BitVec.ofNat 32 (r * 65536 + p) := by
  unfold Scalar.addi Scalar.muli IntOp.addi IntOp.muli
  rw [BitVec.ofNat_add, BitVec.ofNat_mul]

/-- The upper half of a packed word. -/
theorem packed_upper {r p : ℕ} (hr : r < 16) (hp : p ≤ 16) :
    (BitVec.ofNat 32 (r * 65536 + p)) >>> 16 = BitVec.ofNat 32 r := by
  refine BitVec.eq_of_toNat_eq ?_
  rw [BitVec.toNat_ushiftRight, BitVec.toNat_ofNat, BitVec.toNat_ofNat, Nat.shiftRight_eq_div_pow,
    Nat.mod_eq_of_lt (by norm_num; omega), Nat.mod_eq_of_lt (by norm_num; omega)]
  norm_num
  omega

/-- The lower half of a packed word. -/
theorem packed_lower {r p : ℕ} (hr : r < 16) (hp : p ≤ 16) :
    (BitVec.ofNat 32 (r * 65536 + p)) &&& 65535#32 = BitVec.ofNat 32 p := by
  refine BitVec.eq_of_toNat_eq ?_
  rw [BitVec.toNat_and, BitVec.toNat_ofNat, BitVec.toNat_ofNat, BitVec.toNat_ofNat,
    Nat.mod_eq_of_lt (a := r * 65536 + p) (by norm_num; omega), Nat.mod_eq_of_lt (a := p) (by norm_num; omega)]
  rw [show 65535 % 2 ^ 32 = 2 ^ 16 - 1 by norm_num, Nat.and_two_pow_sub_one_eq_mod]
  norm_num
  omega

variable (n : Fin 16 → ℕ → ℕ) (hb : ∀ r x, n r x ≤ 1) (hmono : ∀ r x, x + 1 < 4096 → n r (x + 1) ≤ n r x)

include hmono in
/-- No entry of a row is above its first. -/
theorem le_first (r : Fin 16) (x : ℕ) (hx : x < 4096) : n r x ≤ n r 0 := by
  induction x with
  | zero => exact le_rfl
  | succ x ih => exact (hmono r x hx).trans (ih (Nat.lt_of_succ_lt hx))

include hb hmono in
/-- A row's count is positive exactly when its first entry is one. -/
theorem count_pos_iff (r : Fin 16) : 1 ≤ count n r ↔ n r 0 = 1 := by
  constructor
  · intro h
    by_contra h0
    have hz : n r 0 = 0 := by have := hb r 0; omega
    have : count n r = 0 := Finset.sum_eq_zero fun x hx => by
      have := le_first n hmono r x (Finset.mem_range.mp hx)
      omega
    omega
  · intro h
    rw [← h]
    exact Finset.single_le_sum (f := fun x => n r x) (fun _ _ => Nat.zero_le _) (Finset.mem_range.mpr (by norm_num))

include hb hmono in
/-- The positive lengths are as many as the first entries sum to. -/
theorem positives_eq : positives (words n) 16 = ∑ r : Fin 16, n r 0 := by
  unfold positives
  rw [Finset.card_filter]
  refine Finset.sum_congr rfl fun r _ => ?_
  have hc := count_le n hb r
  have e : 1 ≤ (words n r).toInt ↔ n r 0 = 1 := by
    rw [← count_pos_iff n hb hmono r]
    unfold words
    generalize count n r = k at hc ⊢
    rw [small_toInt (lt_of_le_of_lt hc (by norm_num))]
    omega
  have h := hb r 0
  by_cases h1 : n r 0 = 1
  · rw [if_pos ⟨r.isLt, e.mpr h1⟩, h1]
  · rw [if_neg fun hh => h1 (e.mp hh.2)]
    omega

end Cert.Proof.Ref
-- ==== Proof.Equation.lean ====
/- The equation: under the precondition the kernel and the reference, at extended reals and on the same arguments, end
   with the same four results. -/
module

public import proofs.«01_k».proof.Proof.Frames
public import proofs.«01_k».proof.Proof.Product
public import proofs.«01_k».proof.Proof.RefFinals
public import proofs.«01_k».proof.Proof.Counting

@[expose] public section

noncomputable section

namespace Cert.Proof

open Cert.KernelIdeal Cert.KernelIdeal.Gen
open Idealize.ShloMosaic hiding ix0 ix1 ix2 ix3 ix4
open Idealize.ShloMosaic.TcCoe Idealize.ShloMosaic.ValueIdx Cert.Proof.Rank Cert.Proof.Ker

/-- A mask that the precondition admits: entries 0 or 1, no entry above the one before it in its row. -/
structure Prefixes (a : FVec Ideal S16x4096 .f32) : Prop where
  bits : ∀ r s, a (ix2 r s) = (FloatOps.ofBits .f32 0x00000000#32 : Ideal .f32) ∨ a (ix2 r s) = (FloatOps.ofBits .f32 0x3F800000#32 : Ideal .f32)
  falls : ∀ (r : Fin 16) (s s' : Fin 4096), s'.val = 1 + s.val → (a (ix2 r s') : EReal) ≤ (a (ix2 r s) : EReal)

section Mask

variable {a : FVec Ideal S16x4096 .f32} (h : Prefixes a)

/-- The mask's entries as natural numbers. -/
abbrev entries (a : FVec Ideal S16x4096 .f32) : Fin 16 → ℕ → ℕ := entry naturalReals a

include h in
theorem entries_val (r : Fin 16) (s : Fin 4096) : (a (ix2 r s) : EReal) = ((entries a r s.val : ℝ) : EReal) :=
  entry_val naturalReals a h.bits r s

theorem entries_le (a : FVec Ideal S16x4096 .f32) (r : Fin 16) (x : ℕ) : entries a r x ≤ 1 := entry_le naturalReals a r x

include h in
theorem entries_fall (r : Fin 16) (x : ℕ) (hx : x + 1 < 4096) : entries a r (x + 1) ≤ entries a r x := by
  have e := h.falls r ⟨x, Nat.lt_of_succ_lt hx⟩ ⟨x + 1, hx⟩ (Nat.add_comm x 1)
  rw [entries_val h, entries_val h, EReal.coe_le_coe_iff, Nat.cast_le] at e
  exact e

end Mask

variable (m : (ℓ : Loc nD τ sig) → Buf (Elt Ideal) ℓ) (d : Dev nD)

section Device

variable (h : Prefixes (m (maskLoc d)))
include h

/-- The kernel's lengths are the reference's. -/
theorem words_eq : Ker.words (LEN m d) = Ref.words (entries (m (maskLoc d))) :=
  funext fun r => words_LEN m d naturalReals _ (entries_val h) (entries_le _) r

/-- The first result: the product array holds the reference's restored rows. -/
theorem first_eq : RES m d = Ref.restored (F := Ideal) (m (xLoc d)) (m (maskLoc d)) (m (wLoc d)) := by
  rw [RES_eq]
  funext i
  obtain ⟨r, s, q, rfl⟩ : ∃ (r : Fin 16) (s : Fin 4096) (q : Fin 128), i = ix3 r s q := ⟨i 0, i 1, i 2, by
    funext b; match b with | ⟨0, _⟩ => rfl | ⟨1, _⟩ => rfl | ⟨2, _⟩ => rfl⟩
  exact (Ref.restored_apply (m (maskLoc d)) _ (entries_val h) (entries_le _) (m (xLoc d)) (m (wLoc d)) r s q).symm

/-- The second result: the gathered rows are the reference's final states. -/
theorem second_eq : lifted (gathered (LEN m d) (RES m d)) = Ref.finals (F := Ideal) (m (xLoc d)) (m (maskLoc d)) (m (wLoc d)) := by
  rw [RES_eq]
  funext i
  obtain ⟨z, j, q, rfl⟩ : ∃ (z : Fin 1) (j : Fin 16) (q : Fin 128), i = ix3 z j q := ⟨i 0, i 1, i 2, by
    funext b; match b with | ⟨0, _⟩ => rfl | ⟨1, _⟩ => rfl | ⟨2, _⟩ => rfl⟩
  refine Eq.trans ?_ (Ref.finals_apply (m (maskLoc d)) _ (entries_val h) (entries_le _) (m (xLoc d)) (m (wLoc d)) z j q).symm
  unfold lifted
  rw [broadcastInDim_apply _ _ _ (ix3 z j q) (ix2 j q) (fun b => by match b with | ⟨0, _⟩ => rfl | ⟨1, _⟩ => rfl)]
  unfold gathered
  rw [words_eq m d h]
  rfl

/-- The packed array's word for a position. -/
theorem packed_apply (i : Fin 16) : packed (F := Ideal) (LEN m d) (ix1 i)
    = BitVec.ofNat 32 ((place (Ref.words (entries (m (maskLoc d)))) i).val * 65536 + positives (Ref.words (entries (m (maskLoc d)))) 16) := by
  show packedWord (LEN m d) i = _
  unfold packedWord
  rw [words_eq m d h, place_val]
  exact Ref.packed_word _ _

/-- The third result: the upper halves are the ranks, the reference's second sort. -/
theorem third_eq : upper (packed (F := Ideal) (LEN m d)) = Ref.argsort (Ref.perm (F := Ideal) (m (maskLoc d))) := by
  funext i
  obtain ⟨r, rfl⟩ : ∃ r : Fin 16, i = ix1 r := ⟨i 0, by funext b; match b with | ⟨0, _⟩ => rfl⟩
  rw [Ref.back_names (m (maskLoc d)) _ (entries_val h) (entries_le _) r]
  show IntOp.shrui .host (packed (F := Ideal) (LEN m d) (ix1 r)) 16#32 = _
  rw [packed_apply m d h, IntOp.shrui, if_pos (by decide)]
  exact Ref.packed_upper (Fin.isLt _) (positives_le _ 16)

/-- The fourth result: the lower half is the number of rows that are not empty. -/
theorem fourth_eq : lower (packed (F := Ideal) (LEN m d)) = Ref.valid (F := Ideal) (m (maskLoc d)) := by
  funext i
  rw [Ref.valid_apply (m (maskLoc d)) _ (entries_val h) (entries_le _) i,
    ← Ref.positives_eq _ (entries_le _) (entries_fall h)]
  have e : shapeCast S_ (extractStridedSlice S1 ![0] (packed (F := Ideal) (LEN m d)) slices_S16_S1_0) shapeCasts_S1_S_ i
      = packed (F := Ideal) (LEN m d) (ix1 0) := by
    unfold shapeCast extractStridedSlice
    refine congrArg (packed (F := Ideal) (LEN m d)) (funext fun b => Fin.ext ?_)
    match b with
    | ⟨0, _⟩ =>
      have e0 : Shape.reshapeEquiv shapeCasts_S1_S_ i 0 = (0 : Fin 1) := Subsingleton.elim (α := Fin 1) _ _
      show 0 + (Shape.reshapeEquiv shapeCasts_S1_S_ i 0).val = 0
      rw [e0]; rfl
  show IntOp.andi (shapeCast S_ (extractStridedSlice S1 ![0] (packed (F := Ideal) (LEN m d)) slices_S16_S1_0) shapeCasts_S1_S_ i) 65535#32 = _
  rw [e, packed_apply m d h]
  exact Ref.packed_lower (Fin.isLt _) (positives_le _ 16)

end Device

/-- Under the precondition the two programs end with the same four results. -/
theorem equation : Cert.algebraic_KernelIdeal_ReferenceIdeal := by
  intro m g m' g' hpre hagree
  have hm : ∀ d : Dev nD, Prefixes (m (maskLoc d)) := fun d =>
    ⟨(Cert.Proof.Mask.entries_ideal _ _ _ (hpre d)).1, (Cert.Proof.Mask.entries_ideal _ _ _ (hpre d)).2⟩
  refine ⟨fun d => RES m d, fun d => lifted (gathered (LEN m d) (RES m d)), fun d => upper (packed (LEN m d)),
    fun d => lower (packed (LEN m d)), ?_, ?_⟩
  · refine (θ_run (defs (F := Ideal)) _ _).mono (fun r hr d => ?_) (run_reals m g hpre)
    obtain ⟨h0, h1, h2, h3, h4, h5, h6⟩ := hr.1 d
    exact ⟨h3, h6, h4, h5, h0, h1, h2⟩
  · refine (θ_run Cert.ReferenceIdeal.defs _ _).mono (fun r hr d => ?_) (Cert.ReferenceIdeal.Value.run m' g')
    obtain ⟨r0, r1, r2, r3, ra⟩ := hr d
    obtain ⟨a0, a1, a2⟩ := hagree d
    refine ⟨(r0.trans (Ref.restored_eq m' d)).trans ?_, (r1.trans (Ref.finals_eq m' d)).trans ?_, r2.trans ?_, r3.trans ?_, ra⟩
    · rw [a0, a1, a2]; exact (first_eq m d (hm d)).symm
    · rw [a0, a1, a2]; exact (second_eq m d (hm d)).symm
    · rw [a1]; exact (third_eq m d (hm d)).symm
    · rw [a1]; exact (fourth_eq m d (hm d)).symm

end Cert.Proof
-- ==== Proof.lean ====
/- The proof of the claims in Defs.lean: the kernel as given and at extended reals runs under the precondition and
   leaves its arguments, the reference and the precondition run, and the kernel and the reference end with equal results. -/
module

public import proofs.«01_k».proof.Defs
public import proofs.«01_k».proof.Proof.Frames
public import proofs.«01_k».proof.Proof.RefFrame
public import proofs.«01_k».proof.Proof.Equation

public section

namespace Cert.Proof

/-- Every claim of the certificate holds. -/
theorem claim : Cert.Claim :=
  ⟨Cert.Kernel.Gen.facts, Cert.KernelIdeal.Gen.facts, Cert.ReferenceIdeal.Gen.facts, Cert.Pre_prefix_mask.Gen.facts,
    Ker.frame_kernel, Ker.frame_ideal, frame_reference, frame_reference_pre, trivial, equation⟩

end Cert.Proof
